-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x6x131072 : Shape := ⟨3, ![64, 6, 131072]⟩
abbrev S64x2x131072 : Shape := ⟨3, ![64, 2, 131072]⟩
abbrev S_ : Shape := ⟨0, ![]⟩

class Facts : Prop where
  slices_S64x6x131072_S64x2x131072_0_0_0 : S64x6x131072.Slices ![0, 0, 0] S64x2x131072
  bcast_S_S64x2x131072 : S_.BroadcastsInDim S64x2x131072 (![] : Fin 0 → Fin S64x2x131072.rank)

variable [Facts]

def fn {F : FTy → Type} [FloatOps F] (main_arg0 : FVec F S64x6x131072 .f32) : IVec S64x2x131072 1 :=
  let main_v0 : FVec F S64x2x131072 .f32 := (extractStridedSlice S64x2x131072 ![0, 0, 0] · slices_S64x6x131072_S64x2x131072_0_0_0) main_arg0
  let main_v1 : FVec F S64x2x131072 .f32 := Host.absf main_v0
  let main_cst : FVec F S_ .f32 := constant S_ .f32 0x4B800000#32
  let main_v2 : FVec F S64x2x131072 .f32 := broadcastInDim S64x2x131072 ![] bcast_S_S64x2x131072 main_cst
  let main_v3 : IVec S64x2x131072 1 := cmpf .ole main_v1 main_v2
  main_v3
-- ==== Kernel.lean ====
abbrev S64x6x131072 : Shape := ⟨3, ![64, 6, 131072]⟩
abbrev S64x2x131072 : Shape := ⟨3, ![64, 2, 131072]⟩
abbrev S64x2x1024x128 : Shape := ⟨4, ![64, 2, 1024, 128]⟩
abbrev S64x128x128 : Shape := ⟨3, ![64, 128, 128]⟩
abbrev S2x2x1024x128 : Shape := ⟨4, ![2, 2, 1024, 128]⟩
abbrev S2x128x128 : Shape := ⟨3, ![2, 128, 128]⟩
abbrev S1024x256 : Shape := ⟨2, ![1024, 256]⟩
abbrev S1x2x1024x128 : Shape := ⟨4, ![1, 2, 1024, 128]⟩
abbrev S2x1024x128 : Shape := ⟨3, ![2, 1024, 128]⟩
abbrev S1024x128 : Shape := ⟨2, ![1024, 128]⟩
abbrev S1x1024x128 : Shape := ⟨3, ![1, 1024, 128]⟩
abbrev S1 : Shape := ⟨1, ![1]⟩
abbrev S1x1x1 : Shape := ⟨3, ![1, 1, 1]⟩
abbrev S128x256 : Shape := ⟨2, ![128, 256]⟩
abbrev S256x256 : Shape := ⟨2, ![256, 256]⟩
abbrev S16x256 : Shape := ⟨2, ![16, 256]⟩
abbrev S256x16 : Shape := ⟨2, ![256, 16]⟩
abbrev S1x256 : Shape := ⟨2, ![1, 256]⟩
abbrev S256x1 : Shape := ⟨2, ![256, 1]⟩
abbrev S128x128 : Shape := ⟨2, ![128, 128]⟩
abbrev S1x128x128 : Shape := ⟨3, ![1, 128, 128]⟩
abbrev S64x1x128x128 : Shape := ⟨4, ![64, 1, 128, 128]⟩

abbrev nBuf : Space → Nat
  | .hbm => 5
  | .vmem => 7
  | .smem => 0
  | _ => 0

abbrev bufTy : (tb : Table) → Fin (tcTables nBuf tb) → BufTy
  | .hbm, ⟨0, _⟩ => ⟨S64x6x131072, .f32⟩
  | .hbm, ⟨1, _⟩ => ⟨S64x2x131072, .f32⟩
  | .hbm, ⟨2, _⟩ => ⟨S64x2x1024x128, .f32⟩
  | .hbm, ⟨3, _⟩ => ⟨S64x128x128, .f32⟩
  | .hbm, ⟨4, _⟩ => ⟨S64x1x128x128, .f32⟩
  | .local _ .vmem, ⟨0, _⟩ => ⟨S2x2x1024x128, .f32⟩
  | .local _ .vmem, ⟨1, _⟩ => ⟨S2x2x1024x128, .f32⟩
  | .local _ .vmem, ⟨2, _⟩ => ⟨S2x128x128, .f32⟩
  | .local _ .vmem, ⟨3, _⟩ => ⟨S2x128x128, .f32⟩
  | .local _ .vmem, ⟨4, _⟩ => ⟨S1024x256, .i16⟩
  | .local _ .vmem, ⟨5, _⟩ => ⟨S1024x256, .i32⟩
  | .local _ .vmem, ⟨6, _⟩ => ⟨S1024x256, .bf16⟩
  | _, _ => ⟨S64x6x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_46 : BitVec 32 := 0#32
  let c4_i32 : BitVec 32 := 4#32
  let v130 : BitVec 32 := Scalar.addi c0_i32_46 c4_i32
  let c1_i32 : BitVec 32 := 1#32
  ⟨c0_i32_46, v130, c1_i32⟩
def k0_off1 (k0_t1 : Fin k0_t1_loop.trips) (c0_i32_54 : BitVec 32) : Fin 2 → Nat :=
  let c0_i32_46 : BitVec 32 := 0#32
  let c1_i32 : BitVec 32 := 1#32
  let arg6 : BitVec 32 := Scf.iv c0_i32_46 c1_i32 k0_t1
  let c256_i32 : BitVec 32 := 256#32
  let v140 : BitVec 32 := Scalar.muli arg6 c256_i32
  let v141 : BitVec 32 := Scalar.addi v140 c0_i32_54
  let v142 : Index := Scalar.indexCast v141
  let c0_55 : Index := 0#32
  ![v142.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x6x131072 : Shape := ⟨3, ![64, 6, 131072]⟩
abbrev S64x3x131072 : Shape := ⟨3, ![64, 3, 131072]⟩
abbrev S_ : Shape := ⟨0, ![]⟩
abbrev S64x2x131072 : Shape := ⟨3, ![64, 2, 131072]⟩
abbrev S64x131072 : Shape := ⟨2, ![64, 131072]⟩
abbrev S64x2 : Shape := ⟨2, ![64, 2]⟩
abbrev S64x2x1 : Shape := ⟨3, ![64, 2, 1]⟩
abbrev S64 : Shape := ⟨1, ![64]⟩
abbrev S64x1 : Shape := ⟨2, ![64, 1]⟩
abbrev S64x1x131072 : Shape := ⟨3, ![64, 1, 131072]⟩
abbrev S1048576 : Shape := ⟨1, ![1048576]⟩
abbrev S8388608 : Shape := ⟨1, ![8388608]⟩
abbrev S8388608x1 : Shape := ⟨2, ![8388608, 1]⟩
abbrev S64x128x128x1 : Shape := ⟨4, ![64, 128, 128, 1]⟩
abbrev S64x1x128x128 : Shape := ⟨4, ![64, 1, 128, 128]⟩

abbrev nBuf : Space → Nat
  | .hbm => 69
  | .vmem => 0
  | .smem => 0
  | _ => 0

abbrev bufTy : (tb : Table) → Fin (tcTables nBuf tb) → BufTy
  | .hbm, ⟨0, _⟩ => ⟨S64x6x131072, .f32⟩
  | .hbm, ⟨1, _⟩ => ⟨S64x3x131072, .f32⟩
  | .hbm, ⟨2, _⟩ => ⟨S_, .f32⟩
  | .hbm, ⟨3, _⟩ => ⟨S64x3x131072, .f32⟩
  | .hbm, ⟨4, _⟩ => ⟨S64x3x131072, .f32⟩
  | .hbm, ⟨5, _⟩ => ⟨S64x2x131072, .f32⟩
  | .hbm, ⟨6, _⟩ => ⟨S_, .f32⟩
  | .hbm, ⟨7, _⟩ => ⟨S64x2x131072, .f32⟩
  | .hbm, ⟨8, _⟩ => ⟨S64x2x131072, .i1⟩
  | .hbm, ⟨9, _⟩ => ⟨S64x2x131072, .f32⟩
  | .hbm, ⟨10, _⟩ => ⟨S64x2x131072, .f32⟩
  | .hbm, ⟨11, _⟩ => ⟨S64x2x131072, .f32⟩
  | .hbm, ⟨12, _⟩ => ⟨S64x2x131072, .i32⟩
  | .hbm, ⟨13, _⟩ => ⟨S64x2x131072, .f32⟩
  | .hbm, ⟨14, _⟩ => ⟨S64x2x131072, .f32⟩
  | .hbm, ⟨15, _⟩ => ⟨S64x2x131072, .f32⟩
  | .hbm, ⟨16, _⟩ => ⟨S_, .f32⟩
  | .hbm, ⟨17, _⟩ => ⟨S64x131072, .f32⟩
  | .hbm, ⟨18, _⟩ => ⟨S_, .f32⟩
  | .hbm, ⟨19, _⟩ => ⟨S64x131072, .f32⟩
  | .hbm, ⟨20, _⟩ => ⟨S64x131072, .f32⟩
  | .hbm, ⟨21, _⟩ => ⟨S_, .i32⟩
  | .hbm, ⟨22, _⟩ => ⟨S64x2, .i32⟩
  | .hbm, ⟨23, _⟩ => ⟨S64x2x1, .i32⟩
  | .hbm, ⟨24, _⟩ => ⟨S64x2x131072, .i32⟩
  | .hbm, ⟨25, _⟩ => ⟨S64x2x131072, .i32⟩
  | .hbm, ⟨26, _⟩ => ⟨S_, .i32⟩
  | .hbm, ⟨27, _⟩ => ⟨S64x2x131072, .i32⟩
  | .hbm, ⟨28, _⟩ => ⟨S64x2x131072, .i1⟩
  | .hbm, ⟨29, _⟩ => ⟨S_, .i32⟩
  | .hbm, ⟨30, _⟩ => ⟨S_, .i32⟩
  | .hbm, ⟨31, _⟩ => ⟨S64x2x131072, .i32⟩
  | .hbm, ⟨32, _⟩ => ⟨S64x2x131072, .i32⟩
  | .hbm, ⟨33, _⟩ => ⟨S_, .i1⟩
  | .hbm, ⟨34, _⟩ => ⟨S64x131072, .i1⟩
  | .hbm, ⟨35, _⟩ => ⟨S_, .f32⟩
  | .hbm, ⟨36, _⟩ => ⟨S_, .f32⟩
  | .hbm, ⟨37, _⟩ => ⟨S64x131072, .f32⟩
  | .hbm, ⟨38, _⟩ => ⟨S64x131072, .f32⟩
  | .hbm, ⟨39, _⟩ => ⟨S64, .i32⟩
  | .hbm, ⟨40, _⟩ => ⟨S64x1, .i32⟩
  | .hbm, ⟨41, _⟩ => ⟨S_, .i32⟩
  | .hbm, ⟨42, _⟩ => ⟨S64x1, .i32⟩
  | .hbm, ⟨43, _⟩ => ⟨S64x1, .i32⟩
  | .hbm, ⟨44, _⟩ => ⟨S64x1x131072, .i32⟩
  | .hbm, ⟨45, _⟩ => ⟨S64x131072, .i32⟩
  | .hbm, ⟨46, _⟩ => ⟨S64x131072, .i32⟩
  | .hbm, ⟨47, _⟩ => ⟨S64x131072, .i32⟩
  | .hbm, ⟨48, _⟩ => ⟨S_, .i32⟩
  | .hbm, ⟨49, _⟩ => ⟨S64x131072, .i32⟩
  | .hbm, ⟨50, _⟩ => ⟨S64x131072, .i32⟩
  | .hbm, ⟨51, _⟩ => ⟨S64x1x131072, .i32⟩
  | .hbm, ⟨52, _⟩ => ⟨S64x131072, .i32⟩
  | .hbm, ⟨53, _⟩ => ⟨S64x131072, .i32⟩
  | .hbm, ⟨54, _⟩ => ⟨S_, .f32⟩
  | .hbm, ⟨55, _⟩ => ⟨S1048576, .f32⟩
  | .hbm, ⟨56, _⟩ => ⟨S8388608, .i32⟩
  | .hbm, ⟨57, _⟩ => ⟨S8388608, .f32⟩
  | .hbm, ⟨58, _⟩ => ⟨S_, .i32⟩
  | .hbm, ⟨59, _⟩ => ⟨S8388608, .i32⟩
  | .hbm, ⟨60, _⟩ => ⟨S8388608, .i1⟩
  | .hbm, ⟨61, _⟩ => ⟨S_, .i32⟩
  | .hbm, ⟨62, _⟩ => ⟨S8388608, .i32⟩
  | .hbm, ⟨63, _⟩ => ⟨S8388608, .i32⟩
  | .hbm, ⟨64, _⟩ => ⟨S8388608, .i32⟩
  | .hbm, ⟨65, _⟩ => ⟨S8388608x1, .i32⟩
  | .hbm, ⟨66, _⟩ => ⟨S1048576, .f32⟩
  | .hbm, ⟨67, _⟩ => ⟨S64x128x128x1, .f32⟩
  | .hbm, ⟨68, _⟩ => ⟨S64x1x128x128, .f32⟩
  | _, _ => ⟨S64x6x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_cst_5 : Ref sig .tc := ⟨.hbm, 35, rfl⟩
abbrev main_call2_v0 : Ref sig .tc := ⟨.hbm, 36, rfl⟩
abbrev main_call2_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.Point.lean ====
/- The image of one batch of points, written once for both programs: each point's two integer coordinates, its weight,
   and the 128 × 128 image that the weights add up to. -/
module

public import Idealize.ShloMosaic.PureOps.Ideal
public import Idealize.ShloMosaic.Lib.Pointwise
public import Idealize.ShloMosaic.Lib.WordCmp
public import Idealize.ShloMosaic.Lib.SortNet.Extract

@[expose] public section

noncomputable section

namespace Cert.Splat

open Idealize.ShloMosaic

/-! ### The least of a family of signed words -/

section Least

variable {ι κ : Type}

/-- The least word of a family, read signed (the greatest signed word when the family is empty). -/
def least (s : Finset ι) (f : ι → BitVec 32) : BitVec 32 := s.fold IntOp.minsi 2147483647#32 f

/-- A signed bound below every member is below the least. -/
theorem le_least (s : Finset ι) (f : ι → BitVec 32) (b : ℤ) (hb : b ≤ 2147483647) (h : ∀ n ∈ s, b ≤ (f n).toInt) : b ≤ (least s f).toInt := by
  classical
  induction s using Finset.induction_on with
  | empty => rw [least, Finset.fold_empty]; exact hb
  | insert a s ha ih =>
    rw [least, Finset.fold_insert ha, SortNet.toInt_minsi]
    exact le_min (h a (Finset.mem_insert_self a s)) (ih fun n hn => h n (Finset.mem_insert_of_mem hn))

/-- The least is below every member. -/
theorem least_le (s : Finset ι) (f : ι → BitVec 32) {n : ι} (hn : n ∈ s) : (least s f).toInt ≤ (f n).toInt := by
  classical
  induction s using Finset.induction_on with
  | empty => exact absurd hn (Finset.notMem_empty n)
  | insert a s ha ih =>
    rw [least, Finset.fold_insert ha, SortNet.toInt_minsi]
    rcases Finset.mem_insert.mp hn with rfl | h
    · exact min_le_left _ _
    · exact (min_le_right _ _).trans (ih h)

/-- Where every member of one family occurs in the other, the other's least is no greater. -/
theorem least_le_least (s : Finset ι) (f : ι → BitVec 32) (t : Finset κ) (g : κ → BitVec 32) (h : ∀ i ∈ s, ∃ j ∈ t, f i = g j) :
    (least t g).toInt ≤ (least s f).toInt :=
  le_least s f _ (by have := (least t g).toInt_lt; omega) fun i hi => by
    obtain ⟨j, hj, e⟩ := h i hi
    rw [e]
    exact least_le t g hj

/-- Two families with the same members have the same least. -/
theorem least_eq (s : Finset ι) (f : ι → BitVec 32) (t : Finset κ) (g : κ → BitVec 32) (h : ∀ i ∈ s, ∃ j ∈ t, f i = g j)
    (h' : ∀ j ∈ t, ∃ i ∈ s, g j = f i) : least s f = least t g :=
  BitVec.eq_of_toInt_eq (le_antisymm (least_le_least t g s f h') (least_le_least s f t g h))

end Least

/-! ### One coordinate -/

/-- A coordinate scaled by 62 and rounded toward zero. -/
def cell (a : EReal) : EReal :=
  if a * Ideal.ofBits .f32 0x42780000#32 < 0 then Ideal.liftRound Int.ceil (a * Ideal.ofBits .f32 0x42780000#32)
  else Ideal.liftRound Int.floor (a * Ideal.ofBits .f32 0x42780000#32)

/-- The rounded coordinate as a word. -/
def tick (a : EReal) : BitVec 32 := Ideal.fptosi 32 (cell a)

/-- How far rounding moved the scaled coordinate. -/
def gap (a : EReal) : EReal := FloatOps.absf (F := Ideal) (φ := .f32) (cell a - a * Ideal.ofBits .f32 0x42780000#32)

/-- A real number of size at most `2 ^ 24`. -/
def Bounded (a : EReal) : Prop := ∃ r : ℝ, a = (r : EReal) ∧ |r| ≤ 16777216

/-- The scale is 62. -/
theorem ofBits_62 : Ideal.ofBits .f32 0x42780000#32 = ((62 : ℝ) : EReal) := by
  simp [Ideal.ofBits, Ideal.ieee, -EReal.coe_mul]; norm_num

/-- The rounded coordinate is an integer within `2 ^ 30`. -/
theorem cell_int {a : EReal} (h : Bounded a) : ∃ m : ℤ, |m| ≤ 1073741823 ∧ cell a = ((m : ℝ) : EReal) := by
  obtain ⟨r, rfl, hr⟩ := h
  have hb := abs_le.mp hr
  rw [cell, ofBits_62, ← EReal.coe_mul]
  by_cases hn : r * 62 < 0
  · rw [if_pos (by exact_mod_cast hn)]
    refine ⟨⌈r * 62⌉, abs_le.mpr ⟨?_, ?_⟩, rfl⟩
    · have h1 := Int.le_ceil (r * 62)
      have h2 : ((-1073741823 : ℤ) : ℝ) ≤ (⌈r * 62⌉ : ℝ) := by push_cast; linarith [hb.1]
      exact_mod_cast h2
    · exact Int.ceil_le.mpr (by push_cast; linarith)
  · rw [if_neg (by exact_mod_cast hn)]
    refine ⟨⌊r * 62⌋, abs_le.mpr ⟨?_, ?_⟩, rfl⟩
    · exact Int.le_floor.mpr (by push_cast; linarith)
    · have h1 := Int.floor_le (r * 62)
      have h2 : (⌊r * 62⌋ : ℝ) ≤ ((1073741823 : ℤ) : ℝ) := by push_cast; linarith [hb.2]
      exact_mod_cast h2

/-- The word holds the rounded coordinate exactly. -/
theorem tick_toInt {a : EReal} (h : Bounded a) : |(tick a).toInt| ≤ 1073741823 ∧ cell a = (((tick a).toInt : ℝ) : EReal) := by
  obtain ⟨m, hm, e⟩ := cell_int h
  have hb := abs_le.mp hm
  have ht : (tick a).toInt = m := by
    rw [tick, e, Ideal.fptosi, Ideal.toIntClamped_coe, Int.floor_intCast, Int.ceil_intCast, ite_self, min_eq_right (by norm_num; omega),
      max_eq_right (by norm_num; omega), BitVec.toInt_ofInt]
    simp only [Int.bmod]
    omega
  rw [ht]
  exact ⟨hm, e⟩

/-! ### One batch -/

variable (X : Fin 2 → Fin 131072 → EReal)

/-- A point's coordinate counted from the batch's least. -/
def rel (d : Fin 2) (n : Fin 131072) : BitVec 32 := IntOp.subi (tick (X d n)) (least Finset.univ fun n => tick (X d n))

/-- Whether the coordinate falls off the image. -/
def off (d : Fin 2) (n : Fin 131072) : BitVec 1 := IntOp.cmpi .sge (rel X d n) 128#32

/-- The coordinate used: zero where it falls off. -/
def coord (d : Fin 2) (n : Fin 131072) : BitVec 32 := Scalar.select (off X d n) 0#32 (rel X d n)

/-- The point's weight: zero where either coordinate falls off. -/
def weight (n : Fin 131072) : EReal :=
  Scalar.select (IntOp.ori (off X 0 n) (off X 1 n)) 0 (Ideal.ofBits .f32 0x40000000#32 - ∑ d : Fin 2, gap (X d n))

/-- The batch's image: at each cell the weights of the points there. -/
def image (i j : ℕ) : EReal := ∑ n : Fin 131072, if (coord X 0 n).toNat = i ∧ (coord X 1 n).toNat = j then weight X n else 0

/-- Every coordinate used lies on the image. -/
theorem coord_lt (h : ∀ d n, Bounded (X d n)) (d : Fin 2) (n : Fin 131072) : (coord X d n).toNat < 128 := by
  have h1 := abs_le.mp (tick_toInt (h d n)).1
  have h2 := least_le Finset.univ (fun n => tick (X d n)) (Finset.mem_univ n)
  have h3 := le_least Finset.univ (fun n => tick (X d n)) (-1073741823) (by norm_num) fun n _ => (abs_le.mp (tick_toInt (h d n)).1).1
  have hr : (rel X d n).toInt = (tick (X d n)).toInt - (least Finset.univ fun n => tick (X d n)).toInt := by
    rw [rel, IntOp.subi, BitVec.toInt_sub]
    simp only [Int.bmod]
    omega
  rw [coord, off, WordCmp.cmpi_sge_eq, WordCmp.select_decide]
  have h128 : (128#32 : BitVec 32).toInt = 128 := by decide
  split_ifs with hc
  · decide
  · rw [h128] at hc
    have hlt := (rel X d n).isLt
    rw [BitVec.toInt_eq_toNat_cond] at hr hc
    split_ifs at hr hc <;> omega

end Cert.Splat

end
-- ==== Proof.Batch.lean ====
/- The batches of the argument array and the result that both programs are shown to compute. -/
module

public import proofs.«01_k».proof.Proof.Point

@[expose] public section

noncomputable section

namespace Cert.Splat

open Idealize.ShloMosaic

/-- The two coordinates of the points of batch `B`: the first two of its six rows. -/
def dots (x : (⟨3, ![64, 6, 131072]⟩ : Shape).Idx → EReal) (B : Fin 64) (d : Fin 2) (n : Fin 131072) : EReal :=
  x (ix3 B ⟨d.val, by omega⟩ n)

/-- Every coordinate used is a real number of size at most `2 ^ 24`. -/
def AllBounded (x : (⟨3, ![64, 6, 131072]⟩ : Shape).Idx → EReal) : Prop := ∀ B d n, Bounded (dots x B d n)

/-- The image of every batch, with the axis of size one between the batches and the pixels. -/
def result (x : (⟨3, ![64, 6, 131072]⟩ : Shape).Idx → EReal) : (⟨4, ![64, 1, 128, 128]⟩ : Shape).Idx → EReal :=
  fun y => image (dots x (y 0)) (y 2).val (y 3).val

end Cert.Splat

end
-- ==== Proof.Front.lean ====
/- What the kernel stores for one batch: the words and weights of `Cert.Splat`, read off the printed payloads. -/
module

public import proofs.«01_k».proof.Proof.Point
public import proofs.«01_k».proof.Proof.Gen.KernelIdeal.Frame

@[expose] public section

set_option maxRecDepth 65536

noncomputable section

namespace Cert.KernelIdeal.Val

open Cert.KernelIdeal Cert.KernelIdeal.Gen Idealize.ShloMosaic Idealize.ShloMosaic.TcCoe Idealize.ShloMosaic.Tactic Cert.Splat

/-- Point number `128 r + l` of a batch. -/
def flat (r : Fin 1024) (l : Fin 128) : Fin 131072 := ⟨r.val * 128 + l.val, by omega⟩

/-- A batch's points, in order, from its block of 1024 lines of 128. -/
def pts (v : Vec Ideal S1x2x1024x128 .f32) (d : Fin 2) (n : Fin 131072) : EReal :=
  v (ix4 0 d ⟨n.val / 128, by omega⟩ ⟨n.val % 128, by omega⟩)

/-- The coordinate of the point at row `r` and lane `l`. -/
theorem pts_flat (v : Vec Ideal S1x2x1024x128 .f32) (d : Fin 2) (r : Fin 1024) (l : Fin 128) : pts v d (flat r l) = v (ix4 0 d r l) := by
  have h1 : (⟨(flat r l).val / 128, by omega⟩ : Fin 1024) = r := Fin.ext (by show (r.val * 128 + l.val) / 128 = r.val; omega)
  have h2 : (⟨(flat r l).val % 128, by omega⟩ : Fin 128) = l := Fin.ext (by show (r.val * 128 + l.val) % 128 = l.val; omega)
  rw [pts, h1, h2]

/-- A point is the one at its row and its lane. -/
theorem flat_divmod (n : Fin 131072) : flat ⟨n.val / 128, by omega⟩ ⟨n.val % 128, by omega⟩ = n :=
  Fin.ext (by show n.val / 128 * 128 + n.val % 128 = n.val; omega)

/-- The kernel's minimum over a 1024 × 128 array of words is the least of the 131072 of them. -/
theorem min_eq (v : IVec S1024x128 32) :
    extractAt ![0, 0, 0] (shapeCast S1x1x1 (multiReductionI .minsi [1, 2] S1 (shapeCast S1x1024x128 v shapeCasts_S1024x128_S1x1024x128) 2147483647#32
        reduces_S1x1024x128_S1 rfl) shapeCasts_S1_S1x1x1) inpos_S1x1x1_p0_0_0
      = least Finset.univ fun n : Fin 131072 => v (ix2 ⟨n.val / 128, by omega⟩ ⟨n.val % 128, by omega⟩) := by
  have hx : ∀ M : IVec S1 32, extractAt ![0, 0, 0] (shapeCast S1x1x1 M shapeCasts_S1_S1x1x1) inpos_S1x1x1_p0_0_0 = M (ix1 0) := fun M => by
    pointwise
  refine (hx _).trans ((multiReductionI_eq_fold (axes := [1, 2]) (t := S1) .minsi (shapeCast S1x1024x128 v shapeCasts_S1024x128_S1x1024x128) 2147483647#32
    reduces_S1x1024x128_S1 rfl (ix1 0)).trans ?_)
  refine least_eq _ _ _ _ (fun i _ => ?_) (fun n _ => ?_)
  · obtain ⟨r, l, rfl⟩ : ∃ (r : Fin 1024) (l : Fin 128), i = ix3 0 r l := ⟨i 1, i 2, by
      funext a
      match a with
      | 0 => exact Subsingleton.elim (α := Fin 1) _ _
      | 1 => rfl
      | 2 => rfl⟩
    refine ⟨flat r l, Finset.mem_univ _, ?_⟩
    have h1 : (⟨(flat r l).val / 128, by omega⟩ : Fin 1024) = r := Fin.ext (by show (r.val * 128 + l.val) / 128 = r.val; omega)
    have h2 : (⟨(flat r l).val % 128, by omega⟩ : Fin 128) = l := Fin.ext (by show (r.val * 128 + l.val) % 128 = l.val; omega)
    rw [h1, h2]
    pointwise
  · refine ⟨ix3 0 ⟨n.val / 128, by omega⟩ ⟨n.val % 128, by omega⟩, Finset.mem_filter.mpr ⟨Finset.mem_univ _, ?_⟩, ?_⟩
    · funext a
      match a with
      | 0 => exact Subsingleton.elim (α := Fin 1) _ _
    · pointwise

variable (v : Vec Ideal S1x2x1024x128 .f32) (r : Fin 1024) (l : Fin 128)

/-- The kernel's rounded coordinate. -/
theorem tick_eq (d : Fin 2) : k0_pay276 v (ix3 d r l) = tick (pts v d (flat r l)) := by
  rw [pts_flat]
  pointwise [k0_pay276, k0_pay275, k0_pay274]
  rfl

/-- An array less its own minimum, as the kernel writes it. -/
def subMin (a : IVec S1024x128 32) : IVec S1024x128 32 :=
  subi a (broadcast S1024x128 (extractAt ![0, 0, 0] (shapeCast S1x1x1 (multiReductionI .minsi [1, 2] S1
    (shapeCast S1x1024x128 a shapeCasts_S1024x128_S1x1024x128) 2147483647#32 reduces_S1x1024x128_S1 rfl) shapeCasts_S1_S1x1x1) inpos_S1x1x1_p0_0_0))

/-- An array less one word, at an index. -/
theorem subi_broadcast (a : IVec S1024x128 32) (z : BitVec 32) : subi a (broadcast S1024x128 z) (ix2 r l) = IntOp.subi (a (ix2 r l)) z := rfl

/-- The least word of an array of rounded coordinates is the least over the points. -/
theorem least_flat (a : IVec S1024x128 32) (d : Fin 2) (h : ∀ r l, a (ix2 r l) = tick (pts v d (flat r l))) :
    (least Finset.univ fun n : Fin 131072 => a (ix2 ⟨n.val / 128, by omega⟩ ⟨n.val % 128, by omega⟩))
      = least Finset.univ fun n => tick (pts v d n) := by
  refine congrArg (least Finset.univ) (funext fun n => ?_)
  rw [h, flat_divmod]

/-- An array of rounded coordinates, its least word subtracted, holds the relative coordinates. -/
theorem subMin_apply (a : IVec S1024x128 32) (d : Fin 2) (h : ∀ r l, a (ix2 r l) = tick (pts v d (flat r l))) :
    subMin a (ix2 r l) = rel (pts v) d (flat r l) :=
  (subi_broadcast r l a _).trans (congrArg₂ IntOp.subi (h r l) ((min_eq a).trans (least_flat v a d h)))

/-- The kernel's two coordinates, each less the batch's least. -/
theorem rel0_eq : k0_pay278 v (ix2 r l) = rel (pts v) 0 (flat r l) := by
  have h : k0_pay278 v = subMin (shapeCast S1024x128 (extractStridedSlice S1x1024x128 ![0, 0, 0] (k0_pay276 v) slices_S2x1024x128_o0_0_0_S1x1024x128)
    shapeCasts_S1x1024x128_S1024x128) := rfl
  rw [h]
  exact subMin_apply v r l _ 0 fun r l => by rw [← tick_eq]; pointwise

/-- The second coordinate, its least value subtracted. -/
theorem rel1_eq : k0_pay279 v (ix2 r l) = rel (pts v) 1 (flat r l) := by
  have h : k0_pay279 v = subMin (shapeCast S1024x128 (extractStridedSlice S1x1024x128 ![1, 0, 0] (k0_pay276 v) slices_S2x1024x128_o1_0_0_S1x1024x128)
    shapeCasts_S1x1024x128_S1024x128) := rfl
  rw [h]
  exact subMin_apply v r l _ 1 fun r l => by rw [← tick_eq]; pointwise

/-- The first coordinate as stored, in sixteen bits. -/
theorem stored0 : k0_pay282 (k0_pay281 v) (ix2 r l) = (coord (pts v) 0 (flat r l)).setWidth 16 := by
  pointwise [k0_pay282, k0_pay281]
  rw [rel0_eq]
  rfl

/-- The second coordinate as stored for the batch in the first half of the lanes. -/
theorem stored1 : k0_pay283 (k0_pay279 v) 128#32 (ix2 r l) = IntOp.addi (coord (pts v) 1 (flat r l)) 0#32 := by
  pointwise [k0_pay283]
  rw [rel1_eq]
  rfl

/-- The second coordinate as stored for the batch in the second half: 128 further on. -/
theorem stored1' : k0_pay294 (k0_pay287 v) (ix2 r l) = IntOp.addi (coord (pts v) 1 (flat r l)) 128#32 := by
  have h : k0_pay292 (k0_pay287 v) = k0_pay279 v := rfl
  pointwise [k0_pay294]
  rw [h, rel1_eq]
  rfl

/-- The weight as stored. -/
theorem storedW : k0_pay284 (k0_pay277 v) (k0_pay280 v) (ix2 r l) = weight (pts v) (flat r l) := by
  pointwise [k0_pay284, k0_pay280, k0_pay277, k0_pay275, k0_pay274]
  rw [rel0_eq, rel1_eq, weight]
  simp only [pts_flat]
  rfl

/-- The second batch's payloads are the first's. -/
theorem second0 : k0_pay293 (k0_pay289 v) (k0_pay290 v) = k0_pay282 (k0_pay281 v) := rfl

/-- The second batch's weights are computed as the first batch's are. -/
theorem secondW : k0_pay295 (k0_pay287 v) (k0_pay288 v) (k0_pay289 v) (k0_pay290 v) = k0_pay284 (k0_pay277 v) (k0_pay280 v) := rfl

end Cert.KernelIdeal.Val

end
-- ==== Proof.Trip.lean ====
/- One trip of the kernel's counted loop as sixteen groups of sixteen lines. The printed trip is one long chain of named
   values; here it is folded back into the two nested loops that the kernel's source unrolls. -/
module

public import proofs.«01_k».proof.Proof.Gen.KernelIdeal.Frame

@[expose] public section

set_option maxRecDepth 65536

noncomputable section

namespace Cert.KernelIdeal.Val

open Cert.KernelIdeal Cert.KernelIdeal.Gen Idealize.ShloMosaic Idealize.ShloMosaic.TcCoe Idealize.ShloMosaic.Tactic

variable {F : FTy → Type} [FloatOps F]

/-- What one line of 256 points adds to the running image: the product of the 128 × 256 matrix that holds each point's
    weight in the row of its first coordinate and the 256 × 256 matrix that holds a one in the column of its second. -/
def addLine (v126 : IVec S128x256 16) (z : F .bf16) (o z8 : F .fp8e4m3) (r : IVec S1x256 16) (w : FVec F S1x256 .bf16) (q : IVec S256x1 8)
    (acc : FVec F S128x256 .f32) : FVec F S128x256 .f32 :=
  addf acc (matmul dot_S128x256_S256x256_S128x256_1_0_0_1_n_n none
    (select (cmpi .eq (broadcastTo S128x256 r broadcasts_S1x256_S128x256) v126)
      (broadcastTo S128x256 (shapeCast S1x256 w shapeCasts_S1x256_S1x256) broadcasts_S1x256_S128x256) (broadcast S128x256 z))
    (select (cmpi .eq (broadcastTo S256x256 q broadcasts_S256x1_S256x256) k0_pay1) (broadcast S256x256 o) (broadcast S256x256 z8))
    (constant S128x256 .f32 0x00000000#32))

/-- A row of sixteen can be cut out. -/
theorem slices_row (u : Fin 16) : S16x256.Slices ![u.val, 0] S1x256 := by
  revert u; decide

/-- A column of sixteen can be cut out. -/
theorem slices_col (u : Fin 16) : S256x16.Slices ![0, u.val] S256x1 := by
  revert u; decide

/-- The first `n` lines of one group of sixteen, added one after the other. -/
def addLines (v126 : IVec S128x256 16) (z : F .bf16) (o z8 : F .fp8e4m3) (r : Vec F S16x256 .i16) (q : Vec F S16x256 .i32) (w : Vec F S16x256 .bf16)
    (acc : FVec F S128x256 .f32) : ℕ → FVec F S128x256 .f32
  | 0 => acc
  | n + 1 => addLine v126 z o z8 (extractStridedSlice S1x256 ![(Fin.ofNat 16 n).val, 0] r (slices_row _))
      (extractStridedSlice S1x256 ![(Fin.ofNat 16 n).val, 0] w (slices_row _))
      (extractStridedSlice S256x1 ![0, (Fin.ofNat 16 n).val] (trunci 8 (transpose S256x16 [1, 0] q transposes_S16x256_p1_0_S256x16) natLt_8_32) (slices_col _))
      (addLines v126 z o z8 r q w acc n)

/-- Group `h` of trip `k`, read from an array of 1024 lines: lines `256 k + 16 h` to `256 k + 16 h + 15`. -/
def grp {e : EltTy} (arg : Memref sig .tc .vmem S1024x256 e) (X : BufTy.Contents (Elt F) arg.view.ty) (k : Fin k0_t1_loop.trips) (h : Fin 16) : Vec F S16x256 e :=
  View.readAt (Elt F) arg.view (Rect.unit (s := S1024x256) (k0_off1 k (BitVec.ofNat 32 (16 * h.val))) S16x256.size (k0_off1_inb k h)).toLoadRect X

/-- The first `n` groups of trip `k`, added one after the other. -/
def addGroups (v126 : IVec S128x256 16) (z : F .bf16) (o z8 : F .fp8e4m3) (arg3 : Memref sig .tc .vmem S1024x256 .i16) (arg4 : Memref sig .tc .vmem S1024x256 .i32)
    (arg5 : Memref sig .tc .vmem S1024x256 .bf16) (X3 : BufTy.Contents (Elt F) arg3.view.ty) (X4 : BufTy.Contents (Elt F) arg4.view.ty)
    (X5 : BufTy.Contents (Elt F) arg5.view.ty) (k : Fin k0_t1_loop.trips) (acc : FVec F S128x256 .f32) : ℕ → FVec F S128x256 .f32
  | 0 => acc
  | n + 1 => addLines v126 z o z8 (grp arg3 X3 k (Fin.ofNat 16 n)) (grp arg4 X4 k (Fin.ofNat 16 n)) (grp arg5 X5 k (Fin.ofNat 16 n))
      (addGroups v126 z o z8 arg3 arg4 arg5 X3 X4 X5 k acc n) 16

/-- One trip of the loop adds its sixteen groups of sixteen lines. -/
theorem trip_eq (𝒱 : Variants) (c : Dev nD) (bd : Option 𝒱.V) (i : grid0.Coords) (arg1 : Memref sig .tc .vmem S2x2x1024x128 .f32) (harg1 : arg1.IsWhole)
    (arg2 : Memref sig .tc .vmem S2x128x128 .f32) (harg2 : arg2.IsWhole) (arg3 : Memref sig .tc .vmem S1024x256 .i16) (harg3 : arg3.IsWhole)
    (arg4 : Memref sig .tc .vmem S1024x256 .i32) (harg4 : arg4.IsWhole) (arg5 : Memref sig .tc .vmem S1024x256 .bf16) (harg5 : arg5.IsWhole)
    (X3 : BufTy.Contents (Elt F) arg3.view.ty) (X4 : BufTy.Contents (Elt F) arg4.view.ty) (X5 : BufTy.Contents (Elt F) arg5.view.ty)
    (k : Fin k0_t1_loop.trips) (acc : FVec F S128x256 .f32) :
    tripR_k0_t1 (F := F) 𝒱 c bd i arg1 harg1 arg2 harg2 arg3 harg3 arg4 harg4 arg5 harg5 (iota .tc S128x256 16 [0] iota_S128x256_d0_w16)
        (Scalar.ofBits .bf16 0x0000#16) (Scalar.ofBits .fp8e4m3 0x38#8) (Scalar.ofBits .fp8e4m3 0x00#8) X3 X4 X5 k acc
      = addGroups (iota .tc S128x256 16 [0] iota_S128x256_d0_w16) (Scalar.ofBits .bf16 0x0000#16) (Scalar.ofBits .fp8e4m3 0x38#8)
          (Scalar.ofBits .fp8e4m3 0x00#8) arg3 arg4 arg5 X3 X4 X5 k acc 16 := by
  unfold tripR_k0_t1
  unfold trip_k0_t1
  rfl

end Cert.KernelIdeal.Val

end
-- ==== Proof.Line.lean ====
/- What the counted loop adds to an entry of the running image, over the extended reals. -/
module

public import proofs.«01_k».proof.Proof.Trip
public import Idealize.ShloMosaic.Lib.Pointwise
public import Idealize.ShloMosaic.Lib.WordCmp
public import Idealize.ShloMosaic.Lib.Pipeline.ValueKit.Acc

@[expose] public section

set_option maxRecDepth 65536

noncomputable section

namespace Cert.KernelIdeal.Val

open Cert.KernelIdeal Cert.KernelIdeal.Gen Idealize.ShloMosaic Idealize.ShloMosaic.TcCoe Idealize.ShloMosaic.Tactic

/-- What a point with first coordinate `r`, second coordinate `q` and weight `w` puts into entry `(i, j)`. -/
def hit (r : BitVec 16) (q : BitVec 32) (w : EReal) (i : Fin 128) (j : Fin 256) : EReal :=
  if r = BitVec.ofNat 16 i.val ∧ q.setWidth 8 = BitVec.ofNat 8 j.val then w else 0

/-- The 8-bit pattern `0x38` is the number one. -/
theorem one8 : Ideal.ofBits .fp8e4m3 0x38#8 = 1 := by
  simp [Ideal.ofBits, Ideal.e4m3fn, -EReal.coe_mul]; norm_num

/-- Line `u` of a group adds to entry `(i, j)` the weights of its 256 points that land there. -/
theorem addLine_apply (r : Vec Ideal S16x256 .i16) (q : Vec Ideal S16x256 .i32) (w : Vec Ideal S16x256 .bf16) (u : Fin 16)
    (acc : FVec Ideal S128x256 .f32) (i : Fin 128) (j : Fin 256) :
    addLine (iota .tc S128x256 16 [0] iota_S128x256_d0_w16) (Scalar.ofBits .bf16 0x0000#16) (Scalar.ofBits .fp8e4m3 0x38#8)
        (Scalar.ofBits .fp8e4m3 0x00#8) (extractStridedSlice S1x256 ![u.val, 0] r (slices_row u))
        (extractStridedSlice S1x256 ![u.val, 0] w (slices_row u))
        (extractStridedSlice S256x1 ![0, u.val] (trunci 8 (transpose S256x16 [1, 0] q transposes_S16x256_p1_0_S256x16) natLt_8_32) (slices_col u)) acc (ix2 i j)
      = acc (ix2 i j) + ∑ l : Fin 256, hit (r (ix2 u l)) (q (ix2 u l)) (w (ix2 u l)) i j := by
  pointwise [addLine, k0_pay1]
  rw [one8, show Ideal.ofBits .fp8e4m3 0#8 = 0 from Ideal.ofBits_zero _]
  refine congrArg (acc (ix2 i j) + ·) (Finset.sum_congr rfl fun l _ => ?_)
  rw [WordCmp.cmpi_eq_eq, WordCmp.cmpi_eq_eq, WordCmp.select_decide, WordCmp.select_decide]
  have hj : (BitVec.ofNat 32 j.val).setWidth 8 = BitVec.ofNat 8 j.val := by
    apply BitVec.eq_of_toNat_eq
    simp only [BitVec.toNat_setWidth, BitVec.toNat_ofNat]
    omega
  rw [hj, hit]
  split_ifs <;> simp_all

/-- The first `n` lines of a group add the weights of all their points that land at the entry. -/
theorem addLines_apply (r : Vec Ideal S16x256 .i16) (q : Vec Ideal S16x256 .i32) (w : Vec Ideal S16x256 .bf16)
    (acc : FVec Ideal S128x256 .f32) (i : Fin 128) (j : Fin 256) (n : ℕ) :
    addLines (iota .tc S128x256 16 [0] iota_S128x256_d0_w16) (Scalar.ofBits .bf16 0x0000#16) (Scalar.ofBits .fp8e4m3 0x38#8)
        (Scalar.ofBits .fp8e4m3 0x00#8) r q w acc n (ix2 i j)
      = acc (ix2 i j) + ∑ u ∈ Finset.range n, ∑ l : Fin 256,
          hit (r (ix2 (Fin.ofNat 16 u) l)) (q (ix2 (Fin.ofNat 16 u) l)) (w (ix2 (Fin.ofNat 16 u) l)) i j := by
  induction n with
  | zero => simp [addLines]
  | succ n ih => rw [addLines, addLine_apply, ih, Finset.sum_range_succ, add_assoc]

/-- The loop makes four trips. -/
theorem trips_eq : k0_t1_loop.trips = 4 := by decide

/-- Where group `h` of trip `k` begins. -/
theorem off_eq (k : Fin k0_t1_loop.trips) (h : Fin 16) : k0_off1 k (BitVec.ofNat 32 (16 * h.val)) = ![256 * k.val + 16 * h.val, 0] := by
  revert k h; decide +kernel

/-- A line of a group is the line of the whole array that it is taken from. -/
theorem grp_apply {e : EltTy} (arg : Memref sig .tc .vmem S1024x256 e) (X : BufTy.Contents (Elt Ideal) arg.view.ty) (k : Fin k0_t1_loop.trips)
    (h u : Fin 16) (l : Fin 256) (hr : 256 * k.val + 16 * h.val + u.val < 1024) :
    grp arg X k h (ix2 u l) = arg.view.read (Elt Ideal) X (ix2 ⟨256 * k.val + 16 * h.val + u.val, hr⟩ l) := by
  refine congrArg (arg.view.read (Elt Ideal) X) (funext fun a => Fin.ext ?_)
  refine (congrArg (· + 1 * ((ix2 u l : S16x256.Idx) a).val) (congrFun (off_eq k h) a)).trans ?_
  match a with
  | 0 => show 256 * k.val + 16 * h.val + 1 * u.val = 256 * k.val + 16 * h.val + u.val; rw [one_mul]
  | 1 => show 0 + 1 * l.val = l.val; omega

/-- What the points of line `r` of the whole arrays put into entry `(i, j)`. -/
def row (A3 : S1024x256.Idx → BitVec 16) (A4 : S1024x256.Idx → BitVec 32) (A5 : S1024x256.Idx → EReal) (i : Fin 128) (j : Fin 256) (r : ℕ) : EReal :=
  if hr : r < 1024 then ∑ l : Fin 256, hit (A3 (ix2 ⟨r, hr⟩ l)) (A4 (ix2 ⟨r, hr⟩ l)) (A5 (ix2 ⟨r, hr⟩ l)) i j else 0

section Loop

variable (arg3 : Memref sig .tc .vmem S1024x256 .i16) (arg4 : Memref sig .tc .vmem S1024x256 .i32)
    (arg5 : Memref sig .tc .vmem S1024x256 .bf16) (X3 : BufTy.Contents (Elt Ideal) arg3.view.ty) (X4 : BufTy.Contents (Elt Ideal) arg4.view.ty)
    (X5 : BufTy.Contents (Elt Ideal) arg5.view.ty) (i : Fin 128) (j : Fin 256)

/-- The first `n` groups of trip `k` add their lines. -/
theorem addGroups_apply (k : Fin k0_t1_loop.trips) (acc : FVec Ideal S128x256 .f32) (n : ℕ) (hn : n ≤ 16) :
    addGroups (iota .tc S128x256 16 [0] iota_S128x256_d0_w16) (Scalar.ofBits .bf16 0x0000#16) (Scalar.ofBits .fp8e4m3 0x38#8)
        (Scalar.ofBits .fp8e4m3 0x00#8) arg3 arg4 arg5 X3 X4 X5 k acc n (ix2 i j)
      = acc (ix2 i j) + ∑ h ∈ Finset.range n, ∑ u ∈ Finset.range 16,
          row (arg3.view.read (Elt Ideal) X3) (arg4.view.read (Elt Ideal) X4) (arg5.view.read (Elt Ideal) X5) i j (256 * k.val + 16 * h + u) := by
  induction n with
  | zero => simp [addGroups]
  | succ n ih =>
    rw [addGroups, addLines_apply, ih (by omega), Finset.sum_range_succ _ n, add_assoc]
    refine congrArg (acc (ix2 i j) + ·) (congrArg (_ + ·) (Finset.sum_congr rfl fun u hu => ?_))
    have hu := Finset.mem_range.mp hu
    have hk : k.val < 4 := k.isLt
    have en : (Fin.ofNat 16 n).val = n := Nat.mod_eq_of_lt (by omega)
    have eu : (Fin.ofNat 16 u).val = u := Nat.mod_eq_of_lt hu
    have hr : 256 * k.val + 16 * n + u < 1024 := by omega
    rw [row, dif_pos hr]
    have e : ∀ (e : EltTy) (arg : Memref sig .tc .vmem S1024x256 e) (X : BufTy.Contents (Elt Ideal) arg.view.ty) (l : Fin 256),
        grp arg X k (Fin.ofNat 16 n) (ix2 (Fin.ofNat 16 u) l) = arg.view.read (Elt Ideal) X (ix2 ⟨256 * k.val + 16 * n + u, hr⟩ l) := by
      intro e arg X l
      rw [grp_apply arg X k _ _ l (by omega)]
      exact congrArg (fun v => arg.view.read (Elt Ideal) X (ix2 v l)) (Fin.ext (by simp only [en, eu]))
    exact Finset.sum_congr rfl fun l _ => by rw [e, e, e]

/-- The loop's image before trip `n`: the lines of the trips before it, over the starting image. -/
theorem loop_apply (𝒱 : Variants) (c : Dev nD) (bd : Option 𝒱.V) (g : grid0.Coords) (arg1 : Memref sig .tc .vmem S2x2x1024x128 .f32) (harg1 : arg1.IsWhole)
    (arg2 : Memref sig .tc .vmem S2x128x128 .f32) (harg2 : arg2.IsWhole) (harg3 : arg3.IsWhole) (harg4 : arg4.IsWhole) (harg5 : arg5.IsWhole)
    (init : FVec Ideal S128x256 .f32) (n : ℕ) (hn : n ≤ 4) :
    st_k0_t1 (F := Ideal) 𝒱 c bd g arg1 harg1 arg2 harg2 arg3 harg3 arg4 harg4 arg5 harg5 (iota .tc S128x256 16 [0] iota_S128x256_d0_w16)
        (Scalar.ofBits .bf16 0x0000#16) (Scalar.ofBits .fp8e4m3 0x38#8) (Scalar.ofBits .fp8e4m3 0x00#8) X3 X4 X5 init n (ix2 i j)
      = init (ix2 i j) + ∑ k ∈ Finset.range n, ∑ h ∈ Finset.range 16, ∑ u ∈ Finset.range 16,
          row (arg3.view.read (Elt Ideal) X3) (arg4.view.read (Elt Ideal) X4) (arg5.view.read (Elt Ideal) X5) i j (256 * k + 16 * h + u) := by
  induction n with
  | zero => rw [st_k0_t1_zero]; simp
  | succ n ih =>
    have h := st_k0_t1_succ (F := Ideal) 𝒱 c bd g arg1 harg1 arg2 harg2 arg3 harg3 arg4 harg4 arg5 harg5 (iota .tc S128x256 16 [0] iota_S128x256_d0_w16)
        (Scalar.ofBits .bf16 0x0000#16) (Scalar.ofBits .fp8e4m3 0x38#8) (Scalar.ofBits .fp8e4m3 0x00#8) X3 X4 X5 init (⟨n, lt_of_lt_of_eq hn trips_eq.symm⟩ : Fin k0_t1_loop.trips)
    refine (congrFun (h.trans (trip_eq ..)) (ix2 i j)).trans ((addGroups_apply _ _ _ _ _ _ _ _ _ _ _ le_rfl).trans ?_)
    rw [ih (by omega), Finset.sum_range_succ _ n, add_assoc]

/-- All four trips add all 1024 lines. -/
theorem loop_all (𝒱 : Variants) (c : Dev nD) (bd : Option 𝒱.V) (g : grid0.Coords) (arg1 : Memref sig .tc .vmem S2x2x1024x128 .f32) (harg1 : arg1.IsWhole)
    (arg2 : Memref sig .tc .vmem S2x128x128 .f32) (harg2 : arg2.IsWhole) (harg3 : arg3.IsWhole) (harg4 : arg4.IsWhole) (harg5 : arg5.IsWhole)
    (init : FVec Ideal S128x256 .f32) :
    st_k0_t1 (F := Ideal) 𝒱 c bd g arg1 harg1 arg2 harg2 arg3 harg3 arg4 harg4 arg5 harg5 (iota .tc S128x256 16 [0] iota_S128x256_d0_w16)
        (Scalar.ofBits .bf16 0x0000#16) (Scalar.ofBits .fp8e4m3 0x38#8) (Scalar.ofBits .fp8e4m3 0x00#8) X3 X4 X5 init 4 (ix2 i j)
      = init (ix2 i j) + ∑ r : Fin 1024, ∑ l : Fin 256,
          hit (arg3.view.read (Elt Ideal) X3 (ix2 r l)) (arg4.view.read (Elt Ideal) X4 (ix2 r l)) (arg5.view.read (Elt Ideal) X5 (ix2 r l)) i j := by
  refine (loop_apply arg3 arg4 arg5 X3 X4 X5 i j 𝒱 c bd g arg1 harg1 arg2 harg2 harg3 harg4 harg5 init 4 le_rfl).trans ?_
  refine congrArg (init (ix2 i j) + ·) ?_
  generalize arg3.view.read (Elt Ideal) X3 = A3
  generalize arg4.view.read (Elt Ideal) X4 = A4
  generalize arg5.view.read (Elt Ideal) X5 = A5
  have hR : ∀ r : Fin 1024, ∑ l : Fin 256, hit (A3 (ix2 r l)) (A4 (ix2 r l)) (A5 (ix2 r l)) i j = row A3 A4 A5 i j r.val := fun r => by
    rw [row, dif_pos r.isLt]
  rw [Finset.sum_congr rfl fun r _ => hR r, Finset.sum_range]
  rw [← Fin.sum_mul_add_fin 4 256 fun r : Fin 1024 => row A3 A4 A5 i j r.val]
  refine Finset.sum_congr rfl fun k _ => ?_
  rw [← Fin.sum_mul_add_fin 16 16 fun r : Fin 256 => row A3 A4 A5 i j (k.val * 256 + r.val), Finset.sum_range]
  refine Finset.sum_congr rfl fun h _ => ?_
  rw [Finset.sum_range]
  exact Finset.sum_congr rfl fun u _ => congrArg (row A3 A4 A5 i j) (by simp only []; omega)

end Loop

end Cert.KernelIdeal.Val

end
-- ==== Proof.Block.lean ====
/- What one grid point leaves in its output block: the images of the two batches of its input block. -/
module

public import proofs.«01_k».proof.Proof.Front
public import proofs.«01_k».proof.Proof.Line
public import Idealize.ShloMosaic.Lib.WritesUnit

@[expose] public section

set_option maxRecDepth 65536

noncomputable section

namespace Cert.KernelIdeal.Val

open Cert.KernelIdeal Cert.KernelIdeal.Gen Idealize.ShloMosaic Idealize.ShloMosaic.TcCoe Idealize.ShloMosaic.Tactic Cert.Splat

/-- Batch `b` of a block of two. -/
def half (x : Vec Ideal S2x2x1024x128 .f32) (b : Fin 2) : Vec Ideal S1x2x1024x128 .f32 := fun y => x (ix4 b (y 1) (y 2) (y 3))

/-- Lane `k` of the half of the 256 lanes that belongs to batch `b`. -/
def lane (b : Fin 2) (k : Fin 128) : Fin 256 := ⟨b.val * 128 + k.val, by omega⟩

/-- Two side-by-side writes of 128 lanes, read back. -/
theorem read_lanes {e : EltTy} (v : View sig .tc .vmem S1024x256 e) (f : v.ty.Contents (Elt Ideal)) (w : Fin 2 → S1024x128.Idx → Elt Ideal e)
    (r : Fin 1024) (b : Fin 2) (k : Fin 128) :
    v.read (Elt Ideal) (v.writes (Elt Ideal) f [⟨Rect.unit ![0, 128] S1024x128.size inb_S1024x256_S1024x128_0_128, w 1⟩,
        ⟨Rect.unit ![0, 0] S1024x128.size inb_S1024x256_S1024x128_0_0, w 0⟩]) (ix2 r (lane b k)) = w b (ix2 r k) := by
  match b with
  | 0 =>
    refine (View.read_writes_cons_unit_of_not_mem v f _ (w 1) _ (ix2 r (lane 0 k)) rfl 1 (.inl ?_)).trans ?_
    · show 0 * 128 + k.val < 128; omega
    · refine View.read_writes_cons_unit_of_mem v f _ (w 0) _ (ix2 r (lane 0 k)) (ix2 r k) rfl fun a => ?_
      match a with
      | 0 => show r.val = 0 + r.val; omega
      | 1 => show 0 * 128 + k.val = 0 + k.val; omega
  | 1 =>
    refine View.read_writes_cons_unit_of_mem v f _ (w 1) _ (ix2 r (lane 1 k)) (ix2 r k) rfl fun a => ?_
    match a with
    | 0 => show r.val = 0 + r.val; omega
    | 1 => show 1 * 128 + k.val = 128 + k.val; omega

/-- Two writes of one image each, read back. -/
theorem read_image0 (v : View sig .tc .vmem S2x128x128 .f32) (f : v.ty.Contents (Elt Ideal)) (w0 w1 : S1x128x128.Idx → Elt Ideal .f32) (i j : Fin 128) :
    v.read (Elt Ideal) (v.writes (Elt Ideal) f [⟨Rect.unit ![1, 0, 0] ![1, 128, 128] inb_S2x128x128_S1x128x128_1_0_0, w1⟩,
        ⟨Rect.unit ![0, 0, 0] ![1, 128, 128] inb_S2x128x128_S1x128x128_0_0_0, w0⟩]) (ix3 0 i j) = w0 (ix3 0 i j) := by
  refine (View.read_writes_cons_unit_of_not_mem v f _ w1 _ (ix3 0 i j) rfl 0 (.inl ?_)).trans ?_
  · show 0 < 1; omega
  · refine View.read_writes_cons_unit_of_mem v f _ w0 _ (ix3 0 i j) (ix3 0 i j) rfl fun a => ?_
    match a with
    | 0 => rfl
    | 1 => show i.val = 0 + i.val; omega
    | 2 => show j.val = 0 + j.val; omega

/-- The second image of a block reads the second of the two writes. -/
theorem read_image1 (v : View sig .tc .vmem S2x128x128 .f32) (f : v.ty.Contents (Elt Ideal)) (w0 w1 : S1x128x128.Idx → Elt Ideal .f32) (i j : Fin 128) :
    v.read (Elt Ideal) (v.writes (Elt Ideal) f [⟨Rect.unit ![1, 0, 0] ![1, 128, 128] inb_S2x128x128_S1x128x128_1_0_0, w1⟩,
        ⟨Rect.unit ![0, 0, 0] ![1, 128, 128] inb_S2x128x128_S1x128x128_0_0_0, w0⟩]) (ix3 1 i j) = w1 (ix3 0 i j) := by
  refine View.read_writes_cons_unit_of_mem v f _ w1 _ (ix3 1 i j) (ix3 0 i j) rfl fun a => ?_
  match a with
  | 0 => rfl
  | 1 => show i.val = 0 + i.val; omega
  | 2 => show j.val = 0 + j.val; omega

/-- A point lands in its own batch's half of the lanes and there in the column of its second coordinate. -/
theorem hit_lane (c0 c1 : BitVec 32) (h0 : c0.toNat < 128) (h1 : c1.toNat < 128) (w : EReal) (i j : Fin 128) (b b' : Fin 2) :
    hit (c0.setWidth 16) (IntOp.addi c1 (BitVec.ofNat 32 (128 * b'.val))) w i (lane b j)
      = if b' = b then (if c0.toNat = i.val ∧ c1.toNat = j.val then w else 0) else 0 := by
  have e0 : c0.setWidth 16 = BitVec.ofNat 16 i.val ↔ c0.toNat = i.val := by
    rw [← BitVec.toNat_inj, BitVec.toNat_setWidth, BitVec.toNat_ofNat]
    omega
  have e1 : (IntOp.addi c1 (BitVec.ofNat 32 (128 * b'.val))).setWidth 8 = BitVec.ofNat 8 (lane b j).val ↔ (b' = b ∧ c1.toNat = j.val) := by
    rw [← BitVec.toNat_inj, BitVec.toNat_setWidth, BitVec.toNat_ofNat, IntOp.addi, BitVec.toNat_add, BitVec.toNat_ofNat, Fin.ext_iff]
    show _ = (b.val * 128 + j.val) % 2 ^ 8 ↔ _
    omega
  simp only [hit, e0, e1]
  split_ifs <;> simp_all

/-- The pieces stored for each batch. -/
def words0 (x : Vec Ideal S2x2x1024x128 .f32) (b : Fin 2) : S1024x128.Idx → BitVec 16 := k0_pay282 (k0_pay281 (half x b))
/-- The column words that a block stores for each of its two batches; those of the second are shifted past the first 128 columns. -/
def words1 (x : Vec Ideal S2x2x1024x128 .f32) : Fin 2 → S1024x128.Idx → BitVec 32
  | 0 => k0_pay283 (k0_pay279 (half x 0)) 128#32
  | 1 => k0_pay294 (k0_pay287 (half x 1))
/-- The weights that a block stores for each of its two batches. -/
def weights (x : Vec Ideal S2x2x1024x128 .f32) (b : Fin 2) : S1024x128.Idx → EReal := k0_pay284 (k0_pay277 (half x b)) (k0_pay280 (half x b))

/-- A stored column word is the second coordinate of its point plus 128 times the batch. -/
theorem words1_apply (x : Vec Ideal S2x2x1024x128 .f32) (b : Fin 2) (r : Fin 1024) (l : Fin 128) :
    words1 x b (ix2 r l) = IntOp.addi (coord (pts (half x b)) 1 (flat r l)) (BitVec.ofNat 32 (128 * b.val)) := by
  match b with
  | 0 => exact stored1 _ r l
  | 1 => exact stored1' _ r l

/-- The sum over the lanes of both halves keeps the entry's own batch only, and is that batch's image. -/
theorem sum_hits (x : Vec Ideal S2x2x1024x128 .f32) (hx : ∀ b d n, Bounded (pts (half x b) d n)) (A3 : S1024x256.Idx → BitVec 16)
    (A4 : S1024x256.Idx → BitVec 32) (A5 : S1024x256.Idx → EReal) (h3 : ∀ r b k, A3 (ix2 r (lane b k)) = words0 x b (ix2 r k))
    (h4 : ∀ r b k, A4 (ix2 r (lane b k)) = words1 x b (ix2 r k)) (h5 : ∀ r b k, A5 (ix2 r (lane b k)) = weights x b (ix2 r k))
    (b : Fin 2) (i j : Fin 128) :
    ∑ r : Fin 1024, ∑ l : Fin 256, hit (A3 (ix2 r l)) (A4 (ix2 r l)) (A5 (ix2 r l)) i (lane b j) = image (pts (half x b)) i.val j.val := by
  refine Eq.trans (Finset.sum_congr rfl fun r _ => ?_) (Fin.sum_mul_add_fin 1024 128 fun n : Fin 131072 =>
    if (coord (pts (half x b)) 0 n).toNat = i.val ∧ (coord (pts (half x b)) 1 n).toNat = j.val then weight (pts (half x b)) n else 0)
  refine (Fin.sum_mul_add_fin 2 128 fun l : Fin 256 => hit (A3 (ix2 r l)) (A4 (ix2 r l)) (A5 (ix2 r l)) i (lane b j)).symm.trans ?_
  have hterm : ∀ (b' : Fin 2) (k : Fin 128), hit (A3 (ix2 r (lane b' k))) (A4 (ix2 r (lane b' k))) (A5 (ix2 r (lane b' k))) i (lane b j)
      = if b' = b then (if (coord (pts (half x b')) 0 (flat r k)).toNat = i.val ∧ (coord (pts (half x b')) 1 (flat r k)).toNat = j.val
          then weight (pts (half x b')) (flat r k) else 0) else 0 := fun b' k => by
    rw [h3, h4, h5, words1_apply, words0, weights, stored0, storedW]
    exact hit_lane _ _ (coord_lt _ (hx b') 0 _) (coord_lt _ (hx b') 1 _) _ i j b b'
  refine (Finset.sum_congr rfl fun b' _ => Finset.sum_congr rfl fun k _ => hterm b' k).trans ?_
  rw [Finset.sum_eq_single b (fun b' _ hb => Finset.sum_eq_zero fun k _ => if_neg hb) (fun h => absurd (Finset.mem_univ b) h)]
  exact Finset.sum_congr rfl fun k _ => if_pos rfl

/-- A load of one batch of the block. -/
theorem load_half (arg1 : Memref sig .tc .vmem S2x2x1024x128 .f32) (harg1 : arg1.IsWhole) (x : Vec Ideal S2x2x1024x128 .f32) (b : Fin 2)
    (off : Fin 4 → ℕ) (hoff : off = ![b.val, 0, 0, 0]) (inb : ∀ a, off a + S1x2x1024x128.size a ≤ S2x2x1024x128.size a) :
    View.readAt (Elt Ideal) arg1.view (Rect.unit (s := S2x2x1024x128) off S1x2x1024x128.size inb).toLoadRect (harg1.unread x) = half x b := by
  subst hoff
  funext y
  rw [View.readAt_apply, harg1.read_unread]
  refine congrArg x (funext fun a => Fin.ext ?_)
  match a with
  | 0 =>
    have h : (y 0).val < 1 := (y 0).isLt
    show b.val + 1 * (y 0).val = b.val
    omega
  | 1 => show 0 + 1 * (y 1).val = (y 1).val; omega
  | 2 => show 0 + 1 * (y 2).val = (y 2).val; omega
  | 3 => show 0 + 1 * (y 3).val = (y 3).val; omega

/-- The left and the right half of the wide image, cut out for the two batches. -/
theorem left_image (S : FVec Ideal S128x256 .f32) (i j : Fin 128) : k0_pay4 S (ix3 0 i j) = S (ix2 i (lane 0 j)) := by
  have e : lane 0 j = ⟨j.val, by omega⟩ := Fin.ext (by show 0 * 128 + j.val = j.val; omega)
  rw [e]
  pointwise [k0_pay4]

/-- The second image that a block writes is the right half of the sum. -/
theorem right_image (S : FVec Ideal S128x256 .f32) (i j : Fin 128) : k0_pay5 S (ix3 0 i j) = S (ix2 i (lane 1 j)) := by
  have e : lane 1 j = ⟨128 + j.val, by omega⟩ := Fin.ext (by show 1 * 128 + j.val = 128 + j.val; omega)
  rw [e]
  pointwise [k0_pay5]

/-- The image over both halves of the lanes that the loop makes from a block of two batches. -/
def wide (c : Dev nD) (g : grid0.Coords) (arg1 : Memref sig .tc .vmem S2x2x1024x128 .f32) (harg1 : arg1.IsWhole)
    (arg2 : Memref sig .tc .vmem S2x128x128 .f32) (harg2 : arg2.IsWhole) (arg3 : Memref sig .tc .vmem S1024x256 .i16) (harg3 : arg3.IsWhole)
    (arg4 : Memref sig .tc .vmem S1024x256 .i32) (harg4 : arg4.IsWhole) (arg5 : Memref sig .tc .vmem S1024x256 .bf16) (harg5 : arg5.IsWhole)
    (x : Vec Ideal S2x2x1024x128 .f32) : FVec Ideal S128x256 .f32 :=
  st_k0_t1 (F := Ideal) Variants.none c none g arg1 harg1 arg2 harg2 arg3 harg3 arg4 harg4 arg5 harg5 (iota .tc S128x256 16 [0] iota_S128x256_d0_w16)
    (Scalar.ofBits .bf16 0x0000#16) (Scalar.ofBits .fp8e4m3 0x38#8) (Scalar.ofBits .fp8e4m3 0x00#8)
    (arg3.view.writes (Elt Ideal) arg3.view.junk [⟨Rect.unit ![0, 128] S1024x128.size inb_S1024x256_S1024x128_0_128, k0_pay282 (k0_pay281 (half x 1))⟩,
      ⟨Rect.unit ![0, 0] S1024x128.size inb_S1024x256_S1024x128_0_0, k0_pay282 (k0_pay281 (half x 0))⟩])
    (arg4.view.writes (Elt Ideal) arg4.view.junk [⟨Rect.unit ![0, 128] S1024x128.size inb_S1024x256_S1024x128_0_128, k0_pay294 (k0_pay287 (half x 1))⟩,
      ⟨Rect.unit ![0, 0] S1024x128.size inb_S1024x256_S1024x128_0_0, k0_pay283 (k0_pay279 (half x 0)) 128#32⟩])
    (arg5.view.writes (Elt Ideal) arg5.view.junk [⟨Rect.unit ![0, 128] S1024x128.size inb_S1024x256_S1024x128_0_128, k0_pay284 (k0_pay277 (half x 1)) (k0_pay280 (half x 1))⟩,
      ⟨Rect.unit ![0, 0] S1024x128.size inb_S1024x256_S1024x128_0_0, k0_pay284 (k0_pay277 (half x 0)) (k0_pay280 (half x 0))⟩]) k0_pay2 4

/-- The output block of a grid point holds the images of the input block's two batches. -/
theorem out_eq (c : Dev nD) (g : grid0.Coords) (arg1 : Memref sig .tc .vmem S2x2x1024x128 .f32) (harg1 : arg1.IsWhole)
    (arg2 : Memref sig .tc .vmem S2x128x128 .f32) (harg2 : arg2.IsWhole) (arg3 : Memref sig .tc .vmem S1024x256 .i16) (harg3 : arg3.IsWhole)
    (arg4 : Memref sig .tc .vmem S1024x256 .i32) (harg4 : arg4.IsWhole) (arg5 : Memref sig .tc .vmem S1024x256 .bf16) (harg5 : arg5.IsWhole)
    (x : Vec Ideal S2x2x1024x128 .f32) (hx : ∀ b d n, Bounded (pts (half x b) d n)) (b : Fin 2) (i j : Fin 128) :
    out0_A_1 (F := Ideal) c g arg1 harg1 arg2 harg2 arg3 harg3 arg4 harg4 arg5 harg5 x (ix3 b i j) = image (pts (half x b)) i.val j.val := by
  have e0 := load_half arg1 harg1 x 0 ![0, 0, 0, 0] rfl inb_S2x2x1024x128_S1x2x1024x128_0_0_0_0
  have e1 := load_half arg1 harg1 x 1 ![1, 0, 0, 0] rfl inb_S2x2x1024x128_S1x2x1024x128_1_0_0_0
  unfold out0_A_1
  unfold kernelRun0_A
  dsimp only
  sl_unfold_words
  rw [e0, e1, second0, secondW, show Scf.trips (0#32) (Scalar.addi 0#32 4#32) 1#32 = 4 from by decide]
  have hw : wide c g arg1 harg1 arg2 harg2 arg3 harg3 arg4 harg4 arg5 harg5 x (ix2 i (lane b j)) = image (pts (half x b)) i.val j.val := by
    refine (loop_all arg3 arg4 arg5 _ _ _ i (lane b j) Variants.none c none g arg1 harg1 arg2 harg2 harg3 harg4 harg5 k0_pay2).trans ?_
    have hz : k0_pay2 (F := Ideal) (ix2 i (lane b j)) = 0 := by pointwise [k0_pay2]
    rw [hz, zero_add]
    exact sum_hits x hx _ _ _ (fun r b k => read_lanes arg3.view _ (words0 x) r b k) (fun r b k => read_lanes arg4.view _ (words1 x) r b k)
      (fun r b k => read_lanes arg5.view _ (weights x) r b k) b i j
  rw [← hw]
  unfold wide
  generalize st_k0_t1 (F := Ideal) Variants.none c none g arg1 harg1 arg2 harg2 arg3 harg3 arg4 harg4 arg5 harg5 _ _ _ _ _ _ _ _ _ = S
  clear hw e0 e1 hx
  match b with
  | 0 => exact (read_image0 _ _ _ _ i j).trans (left_image S i j)
  | 1 => exact (read_image1 _ _ _ _ i j).trans (right_image S i j)

end Cert.KernelIdeal.Val

end
-- ==== Proof.Array.lean ====
/- What the kernel's result array holds: the image of each batch. -/
module

public import proofs.«01_k».proof.Proof.Batch
public import proofs.«01_k».proof.Proof.Block
public import Idealize.ShloMosaic.Lib.Pipeline.Value
public import Idealize.ShloMosaic.Lib.Claim

@[expose] public section

set_option maxRecDepth 65536

noncomputable section

namespace Cert.KernelIdeal.Val

open Cert.KernelIdeal Cert.KernelIdeal.Gen Idealize.ShloMosaic Idealize.ShloMosaic.TcCoe Idealize.ShloMosaic.Tactic Idealize.SL.Sem Cert.Splat
open Idealize.ShloMosaic.Pipeline (Dat)

variable (m : (ℓ : Loc nD τ sig) → Buf (Elt Ideal) ℓ) (ρ : Dev nD → PrngReg)

/-- The argument array. -/
abbrev arg (c : Dev nD) : S64x6x131072.Idx → EReal := m ((c : Thread nD τ).loc main_arg0)

/-- The array the region reads: the first two of the six rows of every batch, cut into lines of 128. -/
theorem entry_lines (c : Dev nD) (B : Fin 64) (d : Fin 2) (r : Fin 1024) (l : Fin 128) :
    (V m c main_v1 : S64x2x1024x128.Idx → EReal) (ix4 B d r l) = dots (arg m c) B d (flat r l) := by
  have e : (V m c main_v1 : S64x2x1024x128.Idx → EReal)
      = shapeCast S64x2x1024x128 (extractStridedSlice S64x2x131072 ![0, 0, 0] (arg m c) slices_S64x6x131072_S64x2x131072_0_0_0) shapeCasts_S64x2x131072_S64x2x1024x128 := by
    rfl
  rw [e]
  unfold dots flat
  generalize arg m c = x
  pointwise

/-- The batch that is number `b` in the block of point `t`. -/
def batch (t : Fin cfg0.N) (b : Fin 2) : Fin 64 := ⟨2 * t.val + b.val, by have h : cfg0.N = 32 := N_0; omega⟩

/-- The block index of the input window at point `t`. -/
theorem index_in (t : Fin cfg0.N) : win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0) t

/-- The block index of the output window at point `t`. -/
theorem index_out (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

/-- The block point `t` reads holds two batches. -/
theorem block_lines (c : Dev nD) (t : Fin cfg0.N) (b d : Fin 2) (r : Fin 1024) (l : Fin 128) :
    (iblk m c 0 t : S2x2x1024x128.Idx → EReal) (ix4 b d r l) = dots (arg m c) (batch t b) d (flat r l) := by
  refine Eq.trans ?_ (entry_lines m c (batch t b) d r l)
  have hi := index_in t
  unfold iblk
  rw [View.read_apply]
  show V m c main_v1 _ = V m c main_v1 _
  generalize V m c main_v1 = w
  congr 1
  funext a
  apply Fin.ext
  match a with
  | ⟨0, _⟩ => show win0_0.index t 0 * 2 + 1 * b.val = 2 * t.val + b.val; rw [hi.1]; omega
  | ⟨1, _⟩ => show win0_0.index t 1 * 2 + 1 * d.val = d.val; rw [hi.2.1]; omega
  | ⟨2, _⟩ => show win0_0.index t 2 * 1024 + 1 * r.val = r.val; rw [hi.2.2.1]; omega
  | ⟨3, _⟩ => show win0_0.index t 3 * 128 + 1 * l.val = l.val; rw [hi.2.2.2]; omega

/-- So the points of batch `b` of the block are the points of that batch of the argument. -/
theorem block_pts (c : Dev nD) (t : Fin cfg0.N) (b : Fin 2) : pts (half (iblk m c 0 t) b) = dots (arg m c) (batch t b) := by
  funext d n
  refine (block_lines m c t b d ⟨n.val / 128, by omega⟩ ⟨n.val % 128, by omega⟩).trans ?_
  rw [flat_divmod]

/-- The images of all the batches. -/
def images (x : S64x6x131072.Idx → EReal) : S64x128x128.Idx → EReal := fun y => image (dots x (y 0)) (y 1).val (y 2).val

/-- What the body leaves at point `t`: the images of its two batches. -/
theorem outs_eq (c : Dev nD) (h : AllBounded (arg m c)) (t : Fin cfg0.N) (b : Fin 2) (i j : Fin 128) :
    outsAt0 m c t (ix3 b i j) = images (arg m c) (ix3 (batch t b) i j) := by
  have hb : ∀ b d n, Bounded (pts (half (iblk m c 0 t) b) d n) := fun b d n => (congrFun (congrFun (block_pts m c t b) d) n).symm ▸ h (batch t b) d n
  have e := block_pts m c t b
  unfold outsAt0
  generalize iblk m c 0 t = x at hb e ⊢
  have h1 := out_eq c (grid0.coords t) (ms0_0 t) (hs0_0 t) (ms0_1 t) (hs0_1 t) scM0_0 (Memref.isWhole_whole _) scM0_1 (Memref.isWhole_whole _)
    scM0_2 (Memref.isWhole_whole _) x hb b i j
  rw [e] at h1
  exact h1

/-- An array read through the block of point `t`: the entries of its two batches. -/
theorem read_block (G : S64x128x128.Idx → EReal) (t : Fin cfg0.N) (b : Fin 2) (i j : Fin 128) :
    ((cfg0.win 1).blk t).view.read (Elt Ideal) G (ix3 b i j) = G (ix3 (batch t b) i j) := by
  have hi := index_out t
  rw [View.read_apply]
  refine congrArg G ?_
  funext a
  apply Fin.ext
  match a with
  | ⟨0, _⟩ => show win0_1.index t 0 * 2 + 1 * b.val = 2 * t.val + b.val; rw [hi.1]; omega
  | ⟨1, _⟩ => show win0_1.index t 1 * 128 + 1 * i.val = i.val; rw [hi.2.1]; omega
  | ⟨2, _⟩ => show win0_1.index t 2 * 128 + 1 * j.val = j.val; rw [hi.2.2]; omega

/-- A block whose entries are those of an array is the array read through that block. -/
theorem block_ext (G : S64x128x128.Idx → EReal) (O : S2x128x128.Idx → EReal) (t : Fin cfg0.N)
    (h : ∀ (b : Fin 2) (i j : Fin 128), O (ix3 b i j) = G (ix3 (batch t b) i j)) :
    (cfg0.win 1).cut (grid0.coords t) O = ((cfg0.win 1).blk t).view.read (Elt Ideal) G := by
  funext y
  obtain ⟨b, i, j, rfl⟩ : ∃ (b : Fin 2) (i j : Fin 128), y = ix3 b i j := ⟨y 0, y 1, y 2, by
    funext a
    match a with
    | 0 => rfl
    | 1 => rfl
    | 2 => rfl⟩
  exact (h b i j).trans (read_block G t b i j).symm

/-- What point `t` writes back is its block of the images. -/
theorem flushed_eq (c : Dev nD) (h : AllBounded (arg m c)) (t : Fin cfg0.N) :
    (dats m 0 c).flushed 1 t = ((cfg0.win 1).blk t).view.read (Elt Ideal) (images (arg m c)) := by
  show (cfg0.win 1).cut (grid0.coords t) ((dats m 0 c).after 1 t) = _
  rw [after0_1]
  exact block_ext (images (arg m c)) (outsAt0 m c t) t (outs_eq m c h t)

/-- Which entries of the result array point `t` writes: those of its two batches. -/
theorem mem_blk (t : Fin cfg0.N) (y : S64x128x128.Idx) (h0 : t.val * 2 ≤ (y 0 : ℕ)) (h1 : (y 0 : ℕ) < t.val * 2 + 2) :
    y ∈ ((cfg0.win 1).blk t).view.set := by
  show y ∈ ((View.whole main_v2).slice (win0_1.rect t)).set
  rw [View.set_slice_whole, Rect.mem_set_unit]
  have hi := index_out t
  have l1 : (y 1 : ℕ) < 128 := (y 1).isLt
  have l2 : (y 2 : ℕ) < 128 := (y 2).isLt
  intro a
  match a with
  | ⟨0, _⟩ => show win0_1.index t 0 * 2 ≤ (y 0 : ℕ) ∧ (y 0 : ℕ) < win0_1.index t 0 * 2 + 2; rw [hi.1]; exact ⟨h0, h1⟩
  | ⟨1, _⟩ => show win0_1.index t 1 * 128 ≤ (y 1 : ℕ) ∧ (y 1 : ℕ) < win0_1.index t 1 * 128 + 128; rw [hi.2.1]; omega
  | ⟨2, _⟩ => show win0_1.index t 2 * 128 ≤ (y 2 : ℕ) ∧ (y 2 : ℕ) < win0_1.index t 2 * 128 + 128; rw [hi.2.2]; omega

/-- The region's result array ends holding the images. -/
theorem array_eq (c : Dev nD) (h : AllBounded (arg m c)) : (dats m 0 c).arrAt 1 cfg0.N = images (arg m c) :=
  (dats m 0 c).arrAt_eq_of_cover 1 (images (arg m c)) (fun t _ => flushed_eq m c h t) fun y => by
    have l0 : (y 0 : ℕ) < 64 := (y 0).isLt
    have hN : cfg0.N = 32 := N_0
    exact ⟨⟨(y 0 : ℕ) / 2, by omega⟩, flush0_1 _, mem_blk _ y (by dsimp only; omega) (by dsimp only; omega)⟩

/-- The last host operation puts the axis of size one in. -/
theorem tail_array (c : Dev nD) : Pipeline.afterTail₀ cfgs (dats m) 0 (V0 m) [hostOps1] c main_v3
    = broadcastInDim (t := S64x1x128x128) ![0, 2, 3] bcast_S64x128x128_S64x1x128x128_0_2_3 ((dats m 0 c).arrAt 1 cfg0.N : S64x128x128.Idx → EReal) := by
  unfold Pipeline.afterTail₀
  have h := Pipeline.withArrays_arr (cfgs 0).spec (by decide) c (V0 m c) (fun w => (dats m 0 c).arrAt w (cfgs 0).N) 1
  exact congrArg (broadcastInDim (s := S64x128x128) (t := S64x1x128x128) ![0, 2, 3] bcast_S64x128x128_S64x1x128x128_0_2_3) h

/-- So the result buffer ends holding the result. -/
theorem tail_eq (c : Dev nD) (h : AllBounded (arg m c)) :
    Pipeline.afterTail₀ cfgs (dats m) 0 (V0 m) [hostOps1] c main_v3 = result (arg m c) := by
  rw [tail_array, array_eq m c h]
  funext y
  obtain ⟨B, u, i, j, rfl⟩ : ∃ (B : Fin 64) (u : Fin 1) (i j : Fin 128), y = ix4 B u i j := ⟨y 0, y 1, y 2, y 3, by
    funext a
    match a with
    | 0 => rfl
    | 1 => rfl
    | 2 => rfl
    | 3 => rfl⟩
  show _ = images (arg m c) (ix3 B i j)
  generalize images (arg m c) = G
  pointwise

/-- The kernel's run: its result is the images of the argument's batches, the argument is unchanged. -/
theorem run (h : ∀ c, AllBounded (arg m c)) : θ_run defs (onTc (τ := τ) (main (F := Ideal))) ⟨m, fun _ => 0, ρ⟩ fun r => ∀ c : Dev nD,
      r.2.mem ((c : Thread nD τ).loc main_v3) = result (arg m c)
      ∧ r.2.mem ((c : Thread nD τ).loc main_arg0) = m ((c : Thread nD τ).loc main_arg0) :=
  (θ_run defs _ _).mono (fun _ hr c =>
    ⟨((hr c).2 main_v3 (Pipeline.mem_restRefs_of main_v3 (by decide) (by decide))).trans (tail_eq m c (h c)),
      ((hr c).2 main_arg0 (Pipeline.mem_restRefs_of main_arg0 (by decide) (by decide))).trans (W_main_arg0 m (dats m) c)⟩)
    (run_main m ρ)

end Cert.KernelIdeal.Val

end
-- ==== Proof.Steps.lean ====
/- The reference's values in steps, each a function of the argument array, and what each holds at an index. -/
module

public import proofs.«01_k».proof.Proof.Batch
public import proofs.«01_k».proof.Proof.Gen.ReferenceIdeal.Run

@[expose] public section

set_option maxRecDepth 65536

noncomputable section

namespace Cert.ReferenceIdeal.Steps

open Cert.ReferenceIdeal Cert.ReferenceIdeal.Gen Idealize.ShloMosaic Idealize.ShloMosaic.TcCoe Idealize.ShloMosaic.Tactic Cert.Splat

variable (x : FVec Ideal S64x6x131072 .f32)

/-- The first two rows of every batch, scaled. -/
def scaled : FVec Ideal S64x2x131072 .f32 :=
  extractStridedSlice S64x2x131072 ![0, 0, 0] (mulf (extractStridedSlice S64x3x131072 ![0, 0, 0] x slices_S64x6x131072_S64x3x131072_0_0_0)
    (broadcastInDim S64x3x131072 ![] bcast_S_S64x3x131072 (constant S_ .f32 0x42780000#32))) slices_S64x3x131072_S64x2x131072_0_0_0

/-- … rounded toward zero, as words. -/
def ticks : IVec S64x2x131072 32 :=
  fptosi 32 (select (cmpf .olt (scaled x) (broadcastInDim S64x2x131072 ![] bcast_S_S64x2x131072 (constant S_ .f32 0x00000000#32)))
    (Host.ceil (scaled x)) (Host.floor (scaled x)))

/-- The least word of each row. -/
def mins : IVec S64x2 32 := Host.reduce IntOp.minsi (ticks x) (constantI S_ 32 2147483647#32) reducesTo_S64x2x131072_S64x2_d2 h_S_

/-- An array of rows, each row less its own word of `z`. -/
def lessRow (a : IVec S64x2x131072 32) (z : IVec S64x2 32) : IVec S64x2x131072 32 :=
  subi a (broadcastInDim S64x2x131072 ![0, 1, 2] bcast_S64x2x1_S64x2x131072_0_1_2 (broadcastInDim S64x2x1 ![0, 1] bcast_S64x2_S64x2x1_0_1 z))

/-- The words, counted from each row's least. -/
def rels : IVec S64x2x131072 32 := lessRow (ticks x) (mins x)

/-- Which words `a` fall off the image. -/
def offs (a : IVec S64x2x131072 32) : IVec S64x2x131072 1 :=
  cmpi .sge a (broadcastInDim S64x2x131072 ![] bcast_S_S64x2x131072 (constantI S_ 32 128#32))

/-- The words `a` with zero for those that fall off. -/
def kept (a : IVec S64x2x131072 32) : IVec S64x2x131072 32 :=
  select (offs a) (broadcastInDim S64x2x131072 ![] bcast_S_S64x2x131072 (id (constantI S_ 32 0#32))) a

/-- The weights: two less what the rounding `t` moved the coordinates `s`, zero where a word of `a` falls off. -/
def weigh (s : FVec Ideal S64x2x131072 .f32) (t : IVec S64x2x131072 32) (a : IVec S64x2x131072 32) : FVec Ideal S64x131072 .f32 :=
  select (Host.reduce IntOp.ori (offs a) (constantI S_ 1 0#1) reducesTo_S64x2x131072_S64x131072_d1 h_S_)
    (broadcastInDim S64x131072 ![] bcast_S_S64x131072 (id (constant S_ .f32 0x00000000#32)))
    (subf (broadcastInDim S64x131072 ![] bcast_S_S64x131072 (constant S_ .f32 0x40000000#32))
      (Host.reduceAdd (Host.absf (subf (sitofp .f32 t) s)) (constant S_ .f32 0x00000000#32) reducesTo_S64x2x131072_S64x131072_d1 h_S_))

/-- The flat position of each point, from its two coordinates `a`. -/
def flats (a : IVec S64x2x131072 32) : IVec S64x131072 32 :=
  addi (muli (addi (broadcastInDim S64x131072 ![0, 1] bcast_S64x1_S64x131072_0_1 (muli (broadcastInDim S64x1 ![0] bcast_S64_S64x1_0 (iotaInDim S64 32 0))
        (broadcastInDim S64x1 ![] bcast_S_S64x1 (constantI S_ 32 128#32))))
      (shapeCast S64x131072 (extractStridedSlice S64x1x131072 ![0, 0, 0] a slices_S64x2x131072_S64x1x131072_0_0_0) shapeCasts_S64x1x131072_S64x131072))
      (broadcastInDim S64x131072 ![] bcast_S_S64x131072 (constantI S_ 32 128#32)))
    (shapeCast S64x131072 (extractStridedSlice S64x1x131072 ![0, 1, 0] a slices_S64x2x131072_S64x1x131072_0_1_0) shapeCasts_S64x1x131072_S64x131072)

/-- The positions as scatter indices: in one row, a negative one counted from the end. -/
def places (f : IVec S64x131072 32) : IVec S8388608x1 32 :=
  broadcastInDim S8388608x1 ![0] bcast_S8388608_S8388608x1_0
    (select (cmpi .slt (shapeCast S8388608 f shapeCasts_S64x131072_S8388608) (broadcastInDim S8388608 ![] bcast_S_S8388608 (constantI S_ 32 0#32)))
      (addi (shapeCast S8388608 f shapeCasts_S64x131072_S8388608) (broadcastInDim S8388608 ![] bcast_S_S8388608 (constantI S_ 32 1048576#32)))
      (shapeCast S8388608 f shapeCasts_S64x131072_S8388608))

/-- The weights `w` added up at the positions `f`. -/
def landed (f : IVec S64x131072 32) (w : FVec Ideal S64x131072 .f32) : FVec Ideal S1048576 .f32 :=
  Host.scatterAdd scatter_S1048576_S8388608x1_S8388608_n_0_0_1 (broadcastInDim S1048576 ![] bcast_S_S1048576 (constant S_ .f32 0x00000000#32))
    (places f) (shapeCast S8388608 w shapeCasts_S64x131072_S8388608)

/-- The flat array of sums, as images. -/
def pictures (s : FVec Ideal S1048576 .f32) : FVec Ideal S64x1x128x128 .f32 :=
  transpose S64x1x128x128 [0, 3, 1, 2] (shapeCast S64x128x128x1 s shapeCasts_S1048576_S64x128x128x1) transposes_S64x128x128x1_S64x1x128x128_0_3_1_2

/-- The reference's result, in these steps. -/
theorem result_steps (m : (ℓ : Loc nD τ sig) → Buf (Elt Ideal) ℓ) (c : Dev nD) :
    Value.res_main_v45 m c = pictures (landed (flats (kept (rels (m ((c : Thread nD τ).loc main_arg0)))))
      (weigh (scaled (m ((c : Thread nD τ).loc main_arg0))) (ticks (m ((c : Thread nD τ).loc main_arg0))) (rels (m ((c : Thread nD τ).loc main_arg0))))) := by
  unfold Value.res_main_v45
  rfl

end Cert.ReferenceIdeal.Steps

end
-- ==== Proof.Read.lean ====
/- What the reference's steps hold at an index: the words and weights of `Cert.Splat`. -/
module

public import proofs.«01_k».proof.Proof.Steps
public import Idealize.ShloMosaic.Lib.Routing.OpsPair

@[expose] public section

set_option maxRecDepth 65536

noncomputable section

namespace Cert.ReferenceIdeal.Steps

open Cert.ReferenceIdeal Cert.ReferenceIdeal.Gen Idealize.ShloMosaic Idealize.ShloMosaic.TcCoe Idealize.ShloMosaic.Tactic Cert.Splat

/-! ### Arrays of rows, in general -/

section General

variable (a : IVec S64x2x131072 32) (z : IVec S64x2 32) (B : Fin 64) (d : Fin 2) (n : Fin 131072)

/-- The minimum along the rows is the least of each row. -/
theorem min_rows : Host.reduce IntOp.minsi a (constantI S_ 32 2147483647#32) reducesTo_S64x2x131072_S64x2_d2 h_S_ (ix2 B d)
    = least Finset.univ fun n => a (ix3 B d n) := by
  unfold least
  pointwise

/-- A row less its word. -/
theorem lessRow_apply : lessRow a z (ix3 B d n) = IntOp.subi (a (ix3 B d n)) (z (ix2 B d)) := by
  pointwise [lessRow]

/-- Whether a word falls off. -/
theorem offs_apply : offs a (ix3 B d n) = IntOp.cmpi .sge (a (ix3 B d n)) 128#32 := by
  pointwise [offs]

/-- The word kept. -/
theorem kept_apply : kept a (ix3 B d n) = Scalar.select (IntOp.cmpi .sge (a (ix3 B d n)) 128#32) 0#32 (a (ix3 B d n)) := by
  pointwise [kept, offs]
  rfl

/-- Two bits joined by «or» along an axis of two. -/
theorem fold_two (p : Fin 2 → BitVec 1) : Finset.fold IntOp.ori 0#1 p Finset.univ = IntOp.ori (p 0) (p 1) := by
  have hu : (Finset.univ : Finset (Fin 2)) = insert 0 {1} := rfl
  rw [hu, Finset.fold_insert (by decide), Finset.fold_singleton]
  refine congrArg (IntOp.ori (p 0)) ?_
  generalize p 1 = b
  revert b
  decide

/-- Whether either coordinate falls off. -/
theorem any_apply (b : IVec S64x2x131072 1) : Host.reduce IntOp.ori b (constantI S_ 1 0#1) reducesTo_S64x2x131072_S64x131072_d1 h_S_ (ix2 B n)
    = IntOp.ori (b (ix3 B 0 n)) (b (ix3 B 1 n)) := by
  rw [← fold_two fun d => b (ix3 B d n)]
  pointwise

/-- The sum of two coordinates. -/
theorem add_apply (v : FVec Ideal S64x2x131072 .f32) :
    Host.reduceAdd v (constant S_ .f32 0x00000000#32) reducesTo_S64x2x131072_S64x131072_d1 h_S_ (ix2 B n) = ∑ d : Fin 2, v (ix3 B d n) := by
  pointwise

/-- The weight at a point. -/
theorem weigh_apply (s : FVec Ideal S64x2x131072 .f32) (t : IVec S64x2x131072 32) : weigh s t a (ix2 B n)
    = Scalar.select (IntOp.ori (offs a (ix3 B 0 n)) (offs a (ix3 B 1 n))) 0 (Ideal.ofBits .f32 0x40000000#32
        - ∑ d : Fin 2, FloatOps.absf (F := Ideal) (φ := .f32) ((((t (ix3 B d n)).toInt : ℝ) : EReal) - s (ix3 B d n))) := by
  rw [← any_apply B n (offs a)]
  unfold weigh
  generalize Host.reduce IntOp.ori (offs a) (constantI S_ 1 0#1) reducesTo_S64x2x131072_S64x131072_d1 h_S_ = b
  have hz : id (constant (F := Ideal) S_ .f32 0x00000000#32) ix0 = 0 := by
    show constant (F := Ideal) S_ .f32 0x00000000#32 ix0 = 0
    pointwise
  pointwise
  rw [hz]
  rfl

/-- The flat position made from a batch number and two coordinates. -/
def flatWord (p q : BitVec 32) : BitVec 32 :=
  IntOp.addi (IntOp.muli (IntOp.addi (IntOp.muli (BitVec.ofNat 32 B.val) 128#32) p) 128#32) q

/-- It does not wrap where both coordinates are below 128. -/
theorem flatWord_toNat (p q : BitVec 32) (hp : p.toNat < 128) (hq : q.toNat < 128) :
    (flatWord B p q).toNat = (B.val * 128 + p.toNat) * 128 + q.toNat := by
  unfold flatWord
  simp only [IntOp.addi, IntOp.muli, BitVec.toNat_add, BitVec.toNat_mul, BitVec.toNat_ofNat]
  have hB := B.isLt
  omega

/-- The flat position of a point. -/
theorem flats_apply : flats a (ix2 B n) = flatWord B (a (ix3 B 0 n)) (a (ix3 B 1 n)) := by
  unfold flatWord
  pointwise [flats]

/-- Point number `k` among all batches' points. -/
def spot (f : IVec S64x131072 32) (k : Fin 8388608) : BitVec 32 := f (ix2 ⟨k.val / 131072, by omega⟩ ⟨k.val % 131072, by omega⟩)

/-- Its scatter index. -/
theorem places_apply (f : IVec S64x131072 32) (k : Fin 8388608) :
    places f (ix2 k 0) = Scalar.select (IntOp.cmpi .slt (spot f k) 0#32) (IntOp.addi (spot f k) 1048576#32) (spot f k) := by
  unfold spot
  pointwise [places]

end General

/-! ### The steps at the argument -/

section At

variable (x : FVec Ideal S64x6x131072 .f32) (B : Fin 64) (d : Fin 2) (n : Fin 131072)

/-- A scaled coordinate. -/
theorem scaled_apply : scaled x (ix3 B d n) = dots x B d n * Ideal.ofBits .f32 0x42780000#32 := by
  unfold dots
  pointwise [scaled]

/-- A rounded coordinate. -/
theorem ticks_apply : ticks x (ix3 B d n) = tick (dots x B d n) := by
  pointwise [ticks]
  rw [scaled_apply]
  rfl

/-- The least of a row. -/
theorem mins_apply : mins x (ix2 B d) = least Finset.univ fun n => tick (dots x B d n) :=
  (min_rows (ticks x) B d).trans (congrArg (least Finset.univ) (funext fun n => ticks_apply x B d n))

/-- A coordinate counted from the row's least. -/
theorem rels_apply : rels x (ix3 B d n) = rel (dots x B) d n :=
  (lessRow_apply (ticks x) (mins x) B d n).trans (congrArg₂ IntOp.subi (ticks_apply x B d n) (mins_apply x B d))

/-- The coordinate used. -/
theorem coords_apply : kept (rels x) (ix3 B d n) = coord (dots x B) d n :=
  (kept_apply (rels x) B d n).trans (congrArg (fun r => Scalar.select (IntOp.cmpi .sge r 128#32) 0#32 r) (rels_apply x B d n))

/-- The rounding's size, of a bounded coordinate. -/
theorem gap_eq (h : AllBounded x) :
    FloatOps.absf (F := Ideal) (φ := .f32) ((((ticks x (ix3 B d n)).toInt : ℝ) : EReal) - scaled x (ix3 B d n)) = gap (dots x B d n) := by
  rw [ticks_apply, scaled_apply, ← (tick_toInt (h B d n)).2, gap]

/-- The weight of a point. -/
theorem weights_apply (h : AllBounded x) : weigh (scaled x) (ticks x) (rels x) (ix2 B n) = weight (dots x B) n := by
  rw [weigh_apply, offs_apply, offs_apply, rels_apply, rels_apply, weight, off, off]
  simp only [gap_eq x B _ n h]

/-- The flat position of a point, as a number. -/
theorem position (h : AllBounded x) : (flats (kept (rels x)) (ix2 B n)).toNat
    = (B.val * 128 + (coord (dots x B) 0 n).toNat) * 128 + (coord (dots x B) 1 n).toNat :=
  (congrArg BitVec.toNat ((flats_apply (kept (rels x)) B n).trans (congrArg₂ (flatWord B) (coords_apply x B 0 n) (coords_apply x B 1 n)))).trans
    (flatWord_toNat B _ _ (coord_lt (dots x B) (h B) 0 n) (coord_lt (dots x B) (h B) 1 n))

end At

end Cert.ReferenceIdeal.Steps

end
-- ==== Proof.Landing.lean ====
/- The scatter: each pixel of the flat array is the sum of the weights of the points whose position it is. -/
module

public import proofs.«01_k».proof.Proof.Read
public import Idealize.ShloMosaic.Lib.Pipeline.ValueKit.Acc

@[expose] public section

set_option maxRecDepth 65536

noncomputable section

namespace Cert.ReferenceIdeal.Steps

open Cert.ReferenceIdeal Cert.ReferenceIdeal.Gen Idealize.ShloMosaic Idealize.ShloMosaic.TcCoe Idealize.ShloMosaic.Tactic Cert.Splat

/-- In a scatter of `N` scalars into a vector of `M` by one signed index each, update `k` lands at entry `e` exactly when its index is `e`. -/
theorem lands_iff {M N : Nat} (D : ScatterDims ⟨1, ![M]⟩ ⟨2, ![N, 1]⟩ ⟨1, ![N]⟩) (hw : D.insertedWindowDims = [0])
    (hs : D.scatterDimsToOperandDims = [0]) (hv : D.indexVectorDim = 1) (idx : IVec ⟨2, ![N, 1]⟩ 32) (k : Fin N) (e : Fin M) :
    D.resultIdx? (ix1 k) idx = some (ix1 e) ↔ (idx (ix2 k 0)).toInt = (e.val : ℤ) := by
  have hmem : (0 : Fin 1) ∈ D.scatterDimsToOperandDims := by rw [hs]; exact List.mem_singleton.mpr rfl
  have h1 : D.window (ix1 k) 0 = 0 := by
    unfold ScatterDims.window
    refine dif_neg fun h => ?_
    have hn : (0 : Fin 1) ∉ D.insertedWindowDims := of_decide_eq_true (List.mem_filter.mp h).2
    exact hn (by rw [hw]; exact List.mem_singleton.mpr rfl)
  have h2 : D.siIdx (ix1 k) ⟨D.scatterDimsToOperandDims.idxOf 0, List.idxOf_lt_length_iff.mpr hmem⟩ = ix2 k 0 := by
    funext a
    apply Fin.ext
    match a with
    | ⟨0, _⟩ =>
      unfold ScatterDims.siIdx
      rw [dif_neg (by rw [hv]; exact Nat.zero_ne_one)]
      unfold ScatterDims.siCoord
      simp only [Fin.val_cast]
      have only : ∀ X : Fin 1, (ix1 k X).val = k.val := fun X => by rw [Subsingleton.elim X 0]; rfl
      exact only _
    | ⟨1, _⟩ =>
      unfold ScatterDims.siIdx
      rw [dif_pos (by rw [hv])]
      show List.idxOf (0 : Fin 1) D.scatterDimsToOperandDims = 0
      rw [hs]
      simp
  have h3 : D.start (ix1 k) idx 0 = (idx (ix2 k 0)).toInt := by
    unfold ScatterDims.start
    rw [dif_pos hmem, h2]
  rw [Routing.resultIdx?_eq_some]
  constructor
  · intro h
    have h0 : D.start (ix1 k) idx 0 + (D.window (ix1 k) 0 : ℤ) = (e.val : ℤ) := h 0
    rw [h1, h3] at h0
    simpa using h0
  · intro h a
    match a with
    | ⟨0, _⟩ =>
      show D.start (ix1 k) idx 0 + (D.window (ix1 k) 0 : ℤ) = (e.val : ℤ)
      rw [h1, h3, h]
      simp

/-- A sum over the indices of a vector, one by one. -/
theorem sum_vector {N : ℕ} (G : (⟨1, ![N]⟩ : Shape).Idx → EReal) : ∑ j, G j = ∑ k : Fin N, G (ix1 k) := by
  refine Fintype.sum_equiv ⟨fun j => j 0, fun k => ix1 k, fun j => ?_, fun k => rfl⟩ _ _ fun j => ?_
  · funext a
    match a with
    | ⟨0, _⟩ => rfl
  · refine congrArg G (funext fun a => ?_)
    match a with
    | ⟨0, _⟩ => rfl

/-- A scatter's sum at an entry, over the updates one by one. -/
theorem scatter_sum {M N : Nat} (D : ScatterDims ⟨1, ![M]⟩ ⟨2, ![N, 1]⟩ ⟨1, ![N]⟩) (hw : D.insertedWindowDims = [0])
    (hs : D.scatterDimsToOperandDims = [0]) (hv : D.indexVectorDim = 1) (z : FVec Ideal ⟨1, ![M]⟩ .f32) (idx : IVec ⟨2, ![N, 1]⟩ 32)
    (u : FVec Ideal ⟨1, ![N]⟩ .f32) (e : Fin M) :
    Host.scatterAdd D z idx u (ix1 e) = z (ix1 e) + ∑ k : Fin N, if (idx (ix2 k 0)).toInt = (e.val : ℤ) then u (ix1 k) else 0 := by
  refine congrArg (z (ix1 e) + ·) ?_
  refine (Finset.sum_filter _ _).trans ((sum_vector _).trans (Finset.sum_congr rfl fun k _ => ?_))
  exact if_congr (lands_iff D hw hs hv idx k e) rfl rfl

/-- A position below the number of pixels is its own scatter index. -/
theorem place_toInt (q : BitVec 32) (h : q.toNat < 1048576) :
    (Scalar.select (IntOp.cmpi .slt q 0#32) (IntOp.addi q 1048576#32) q).toInt = (q.toNat : ℤ) := by
  have hq : q.toInt = (q.toNat : ℤ) := by rw [BitVec.toInt_eq_toNat_cond]; split_ifs <;> omega
  have h0 : (0#32 : BitVec 32).toInt = 0 := by decide
  rw [WordCmp.cmpi_slt_eq, WordCmp.select_decide, if_neg (by rw [hq, h0]; omega), hq]

/-- The weight of point number `k` among all batches' points. -/
def load (w : FVec Ideal S64x131072 .f32) (k : Fin 8388608) : EReal := w (ix2 ⟨k.val / 131072, by omega⟩ ⟨k.val % 131072, by omega⟩)

/-- The weights in one row. -/
theorem row_apply (w : FVec Ideal S64x131072 .f32) (k : Fin 8388608) :
    shapeCast S8388608 w shapeCasts_S64x131072_S8388608 (ix1 k) = load w k := by
  unfold load
  pointwise

/-- A pixel of the flat array is the sum of the weights at its position. -/
theorem landed_apply (f : IVec S64x131072 32) (w : FVec Ideal S64x131072 .f32) (hf : ∀ k, (spot f k).toNat < 1048576) (e : Fin 1048576) :
    landed f w (ix1 e) = ∑ k : Fin 8388608, if (spot f k).toNat = e.val then load w k else 0 := by
  have hz : broadcastInDim S1048576 ![] bcast_S_S1048576 (constant (F := Ideal) S_ .f32 0x00000000#32) (ix1 e) = 0 := by pointwise
  refine (scatter_sum scatter_S1048576_S8388608x1_S8388608_n_0_0_1 rfl rfl rfl _ (places f) _ e).trans ?_
  rw [hz, zero_add]
  refine Finset.sum_congr rfl fun k _ => ?_
  rw [row_apply, places_apply, place_toInt _ (hf k)]
  exact if_congr Nat.cast_inj rfl rfl

/-- Point `n` of batch `B`, counted among all batches' points. -/
def among (B : Fin 64) (n : Fin 131072) : Fin 8388608 := ⟨B.val * 131072 + n.val, by omega⟩

/-- Its place in the two-axis array. -/
theorem spot_among (f : IVec S64x131072 32) (B : Fin 64) (n : Fin 131072) : spot f (among B n) = f (ix2 B n) := by
  have h1 : (⟨(among B n).val / 131072, by omega⟩ : Fin 64) = B := Fin.ext (by show (B.val * 131072 + n.val) / 131072 = B.val; omega)
  have h2 : (⟨(among B n).val % 131072, by omega⟩ : Fin 131072) = n := Fin.ext (by show (B.val * 131072 + n.val) % 131072 = n.val; omega)
  unfold spot
  rw [h1, h2]

/-- … and its weight. -/
theorem load_among (w : FVec Ideal S64x131072 .f32) (B : Fin 64) (n : Fin 131072) : load w (among B n) = w (ix2 B n) := by
  have h1 : (⟨(among B n).val / 131072, by omega⟩ : Fin 64) = B := Fin.ext (by show (B.val * 131072 + n.val) / 131072 = B.val; omega)
  have h2 : (⟨(among B n).val % 131072, by omega⟩ : Fin 131072) = n := Fin.ext (by show (B.val * 131072 + n.val) % 131072 = n.val; omega)
  unfold load
  rw [h1, h2]

/-- A sum over all batches' points, batch by batch. -/
theorem sum_points (G : Fin 8388608 → EReal) : ∑ k, G k = ∑ B : Fin 64, ∑ n : Fin 131072, G (among B n) :=
  (Fin.sum_mul_add_fin 64 131072 G).symm

/-- The pixel of batch `B` at `(i, j)` in the flat array. -/
def pixel (B : Fin 64) (i j : Fin 128) : Fin 1048576 := ⟨(B.val * 128 + i.val) * 128 + j.val, by omega⟩

/-- The sum over all points of those at a pixel of batch `B` is the sum over that batch's points. -/
theorem sum_batch (C0 C1 : Fin 64 → Fin 131072 → ℕ) (h0 : ∀ B n, C0 B n < 128) (h1 : ∀ B n, C1 B n < 128) (W : Fin 64 → Fin 131072 → EReal)
    (B : Fin 64) (i j : Fin 128) :
    (∑ B' : Fin 64, ∑ n : Fin 131072, if (B'.val * 128 + C0 B' n) * 128 + C1 B' n = (pixel B i j).val then W B' n else 0)
      = ∑ n : Fin 131072, if C0 B n = i.val ∧ C1 B n = j.val then W B n else 0 := by
  refine (Finset.sum_eq_single B (fun B' _ hne => ?_) (fun h => absurd (Finset.mem_univ B) h)).trans ?_
  · refine Finset.sum_eq_zero fun n _ => if_neg fun h => hne (Fin.ext ?_)
    have e : (B'.val * 128 + C0 B' n) * 128 + C1 B' n = (B.val * 128 + i.val) * 128 + j.val := h
    have := h0 B' n
    have := h1 B' n
    omega
  · refine Finset.sum_congr rfl fun n _ => if_congr ?_ rfl rfl
    show (B.val * 128 + C0 B n) * 128 + C1 B n = (B.val * 128 + i.val) * 128 + j.val ↔ _
    have := h0 B n
    have := h1 B n
    omega

variable (x : FVec Ideal S64x6x131072 .f32)

/-- The flat array at a pixel is the image of its batch. -/
theorem landed_eq (h : AllBounded x) (B : Fin 64) (i j : Fin 128) :
    landed (flats (kept (rels x))) (weigh (scaled x) (ticks x) (rels x)) (ix1 (pixel B i j)) = image (dots x B) i.val j.val := by
  have hlt : ∀ B d n, (coord (dots x B) d n).toNat < 128 := fun B d n => coord_lt (dots x B) (h B) d n
  have hf : ∀ k, (spot (flats (kept (rels x))) k).toNat < 1048576 := fun k => by
    unfold spot
    rw [position x _ _ h]
    have h0 := hlt ⟨k.val / 131072, by omega⟩ 0 ⟨k.val % 131072, by omega⟩
    have h1 := hlt ⟨k.val / 131072, by omega⟩ 1 ⟨k.val % 131072, by omega⟩
    have hk := k.isLt
    revert h0 h1
    generalize (coord _ 0 _).toNat = p
    generalize (coord _ 1 _).toNat = q
    intro h0 h1
    show (k.val / 131072 * 128 + p) * 128 + q < 1048576
    omega
  refine (landed_apply _ _ hf _).trans ((sum_points _).trans ?_)
  refine Eq.trans ?_ (sum_batch (fun B n => (coord (dots x B) 0 n).toNat) (fun B n => (coord (dots x B) 1 n).toNat) (fun B n => hlt B 0 n)
    (fun B n => hlt B 1 n) (fun B n => weight (dots x B) n) B i j)
  refine Finset.sum_congr rfl fun B' _ => Finset.sum_congr rfl fun n _ => ?_
  rw [spot_among, load_among, position x B' n h, weights_apply x B' n h]

/-- The images cut out of a flat array. -/
theorem pictures_apply (s : FVec Ideal S1048576 .f32) (B : Fin 64) (u : Fin 1) (i j : Fin 128) :
    pictures s (ix4 B u i j) = s (ix1 (pixel B i j)) := by
  have e : pixel B i j = ⟨B.val * 16384 + i.val * 128 + j.val, by omega⟩ :=
    Fin.ext (by show (B.val * 128 + i.val) * 128 + j.val = B.val * 16384 + i.val * 128 + j.val; omega)
  rw [e]
  pointwise [pictures]

/-- The reference's result is the image of every batch. -/
theorem reference_eq (h : AllBounded x) :
    pictures (landed (flats (kept (rels x))) (weigh (scaled x) (ticks x) (rels x))) = result x := by
  funext y
  obtain ⟨B, u, i, j, rfl⟩ : ∃ (B : Fin 64) (u : Fin 1) (i j : Fin 128), y = ix4 B u i j := ⟨y 0, y 1, y 2, y 3, by
    funext a
    match a with
    | 0 => rfl
    | 1 => rfl
    | 2 => rfl
    | 3 => rfl⟩
  exact (pictures_apply _ B u i j).trans (landed_eq x h B i j)

end Cert.ReferenceIdeal.Steps

end
-- ==== Proof.Bounds.lean ====
/- What the precondition says of the argument array. -/
module

public import proofs.«01_k».proof.Proof.Batch
public import proofs.«01_k».proof.Proof.Gen.Pre_in_range
public import Idealize.ShloMosaic.Lib.Pipeline.Value

@[expose] public section

noncomputable section

namespace Cert.Pre_in_range.Bounds

open Cert.Pre_in_range Cert.Pre_in_range.Gen Idealize.ShloMosaic Idealize.ShloMosaic.Tactic Cert.Splat

/-- The bound's constant is `2 ^ 24`. -/
theorem ofBits_limit : Ideal.ofBits .f32 0x4B800000#32 = ((16777216 : ℝ) : EReal) := by
  simp [Ideal.ofBits, Ideal.ieee, -EReal.coe_mul]; norm_num

/-- A comparison that reads one holds. -/
theorem le_of_cmp {a b : EReal} (h : Ideal.cmp .ole a b = 1#1) : a ≤ b := by
  by_contra hn
  simp [Ideal.cmp, hn] at h

/-- A value whose absolute value is at most `2 ^ 24` is a real number of that size: neither infinity is. -/
theorem bounded_of_le {a : EReal} (h : max a (-a) ≤ ((16777216 : ℝ) : EReal)) : Bounded a := by
  have h1 := (le_max_left a (-a)).trans h
  have h2 := (le_max_right a (-a)).trans h
  induction a using EReal.rec with
  | bot => exact absurd h2 (by rw [EReal.neg_bot]; exact not_le.mpr (EReal.coe_lt_top _))
  | top => exact absurd h1 (not_le.mpr (EReal.coe_lt_top _))
  | coe r =>
    rw [← EReal.coe_neg] at h2
    have h1' := EReal.coe_le_coe_iff.mp h1
    have h2' := EReal.coe_le_coe_iff.mp h2
    exact ⟨r, rfl, abs_le.mpr ⟨by linarith, h1'⟩⟩

/-- The predicate at one coordinate of one point. -/
theorem fn_apply (x : FVec Ideal S64x6x131072 .f32) (B : Fin 64) (d : Fin 2) (n : Fin 131072) :
    fn x (ix3 B d n) = Ideal.cmp .ole (max (dots x B d n) (-(dots x B d n))) (Ideal.ofBits .f32 0x4B800000#32) := by
  have e : extractStridedSlice S64x2x131072 ![0, 0, 0] x slices_S64x6x131072_S64x2x131072_0_0_0 (ix3 B d n) = dots x B d n := by
    unfold dots
    pointwise
  rw [← e]
  rfl

/-- Under the precondition every coordinate used is a real number of size at most `2 ^ 24`. -/
theorem allBounded (x : FVec Ideal S64x6x131072 .f32) (h : fn x = fun _ => 1#1) : AllBounded x := fun B d n =>
  bounded_of_le (ofBits_limit ▸ le_of_cmp ((fn_apply x B d n).symm.trans (congrFun h (ix3 B d n))))

end Cert.Pre_in_range.Bounds

end
-- ==== Proof.lean ====
/- The certificate: the kernel, its ideal reading and the reference run and leave their argument as it was, and the
   kernel and the reference end with the same images whenever the coordinates are at most `2 ^ 24` in size. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Array
public import proofs.«01_k».proof.Proof.Landing
public import proofs.«01_k».proof.Proof.Bounds
public import Idealize.ShloMosaic.Adequacy
public import Idealize.ShloMosaic.Init

@[expose] public section

noncomputable section

namespace Cert.Proof

open Idealize.ShloMosaic Idealize.SL.Sem

/-- The reference runs, its argument ends unchanged and every semaphore reads zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- From the same bounded argument, the reference's result is the image of every batch. -/
theorem reference_result (m' : (ℓ : Loc Cert.ReferenceIdeal.nD Cert.ReferenceIdeal.τ Cert.ReferenceIdeal.sig) → Buf (Elt Ideal) ℓ)
    (c : Dev Cert.ReferenceIdeal.nD) (x : (⟨3, ![64, 6, 131072]⟩ : Shape).Idx → EReal) (h : Cert.Splat.AllBounded x)
    (e : m' ((c.tc : Thread Cert.ReferenceIdeal.nD Cert.ReferenceIdeal.τ).loc Cert.ReferenceIdeal.main_arg0) = x) :
    Cert.ReferenceIdeal.Value.res_main_v45 m' c = Cert.Splat.result x := by
  subst e
  exact (Cert.ReferenceIdeal.Steps.result_steps m' c).trans (Cert.ReferenceIdeal.Steps.reference_eq _ h)

/-- The kernel and the reference, from the same argument, end with the images of its batches. -/
theorem algebraic : Cert.algebraic_KernelIdeal_ReferenceIdeal_pre_in_range := fun m g m' g' hp hm => by
  have hb : ∀ c, Cert.Splat.AllBounded (Cert.KernelIdeal.Val.arg m c) := fun c => Cert.Pre_in_range.Bounds.allBounded _ (hp c)
  refine ⟨fun c => Cert.Splat.result (Cert.KernelIdeal.Val.arg m c), Cert.KernelIdeal.Val.run m g hb, ?_⟩
  exact (θ_run Cert.ReferenceIdeal.defs _ _).mono
    (fun r h c => ⟨(h c).1.trans (reference_result m' c _ (hb c) (hm c)), (h c).2⟩)
    (Cert.ReferenceIdeal.Value.run (F := Ideal) m' g')

/-- Everything certified. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ, trivial, algebraic⟩

end Cert.Proof

end
